-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S512x512 : Shape := ⟨2, ![512, 512]⟩
abbrev S48x512 : Shape := ⟨2, ![48, 512]⟩
abbrev S8x48x512 : Shape := ⟨3, ![8, 48, 512]⟩
abbrev S8 : Shape := ⟨1, ![8]⟩
abbrev S_ : Shape := ⟨0, ![]⟩
abbrev S512x32 : Shape := ⟨2, ![512, 32]⟩
abbrev S512 : Shape := ⟨1, ![512]⟩
abbrev S512x48 : Shape := ⟨2, ![512, 48]⟩
abbrev S48x256 : Shape := ⟨2, ![48, 256]⟩
abbrev S12x256 : Shape := ⟨2, ![12, 256]⟩
abbrev S1x256x512 : Shape := ⟨3, ![1, 256, 512]⟩
abbrev S256x512 : Shape := ⟨2, ![256, 512]⟩
abbrev S12x512 : Shape := ⟨2, ![12, 512]⟩
abbrev S1x48x512 : Shape := ⟨3, ![1, 48, 512]⟩
abbrev S1 : Shape := ⟨1, ![1]⟩
abbrev S512x384 : Shape := ⟨2, ![512, 384]⟩
abbrev S512x192 : Shape := ⟨2, ![512, 192]⟩
abbrev S4x48x512 : Shape := ⟨3, ![4, 48, 512]⟩
abbrev S192x512 : Shape := ⟨2, ![192, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S512x512, .f32⟩
  | .local _ .vmem, ⟨4, _⟩ => ⟨S48x512, .bf16⟩
  | .local _ .vmem, ⟨5, _⟩ => ⟨S8x48x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v152 : BitVec 32 := Scalar.addi v2 c1_i32_70
  let c8_i32_71 : BitVec 32 := 8#32
  let v153 : BitVec 32 := Scalar.remsi v152 c8_i32_71
  let c1_i32_75 : BitVec 32 := 1#32
  let v154 : BitVec 32 := Scalar.muli v153 c1_i32_75
  let v155 : BitVec 32 := Scalar.addi c0_i32_76 v154
  v155.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_79 : BitVec 32 := 2#32
  let v162 : BitVec 32 := Scalar.addi v2 c2_i32_79
  let c8_i32_80 : BitVec 32 := 8#32
  let v163 : BitVec 32 := Scalar.remsi v162 c8_i32_80
  let c1_i32_84 : BitVec 32 := 1#32
  let v164 : BitVec 32 := Scalar.muli v163 c1_i32_84
  let v165 : BitVec 32 := Scalar.addi c0_i32_85 v164
  v165.toNat
def k0_dev10 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_88 : BitVec 32 := 3#32
  let v172 : BitVec 32 := Scalar.addi v2 c3_i32_88
  let c8_i32_89 : BitVec 32 := 8#32
  let v173 : BitVec 32 := Scalar.remsi v172 c8_i32_89
  let c1_i32_93 : BitVec 32 := 1#32
  let v174 : BitVec 32 := Scalar.muli v173 c1_i32_93
  let v175 : BitVec 32 := Scalar.addi c0_i32_94 v174
  v175.toNat
def k0_dev11 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_97 : BitVec 32 := 4#32
  let v182 : BitVec 32 := Scalar.addi v2 c4_i32_97
  let c8_i32_98 : BitVec 32 := 8#32
  let v183 : BitVec 32 := Scalar.remsi v182 c8_i32_98
  let c1_i32_102 : BitVec 32 := 1#32
  let v184 : BitVec 32 := Scalar.muli v183 c1_i32_102
  let v185 : BitVec 32 := Scalar.addi c0_i32_103 v184
  v185.toNat
def k0_dev12 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_106 : BitVec 32 := 5#32
  let v192 : BitVec 32 := Scalar.addi v2 c5_i32_106
  let c8_i32_107 : BitVec 32 := 8#32
  let v193 : BitVec 32 := Scalar.remsi v192 c8_i32_107
  let c1_i32_111 : BitVec 32 := 1#32
  let v194 : BitVec 32 := Scalar.muli v193 c1_i32_111
  let v195 : BitVec 32 := Scalar.addi c0_i32_112 v194
  v195.toNat
def k0_dev13 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v202 : BitVec 32 := Scalar.addi v2 c6_i32_115
  let c8_i32_116 : BitVec 32 := 8#32
  let v203 : BitVec 32 := Scalar.remsi v202 c8_i32_116
  let c1_i32_120 : BitVec 32 := 1#32
  let v204 : BitVec 32 := Scalar.muli v203 c1_i32_120
  let v205 : BitVec 32 := Scalar.addi c0_i32_121 v204
  v205.toNat
def k0_dev14 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_124 : BitVec 32 := 7#32
  let v212 : BitVec 32 := Scalar.addi v2 c7_i32_124
  let c8_i32_125 : BitVec 32 := 8#32
  let v213 : BitVec 32 := Scalar.remsi v212 c8_i32_125
  let c1_i32_129 : BitVec 32 := 1#32
  let v214 : BitVec 32 := Scalar.muli v213 c1_i32_129
  let v215 : BitVec 32 := Scalar.addi c0_i32_130 v214
  v215.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S32 : Shape := ⟨1, ![32]⟩
abbrev S1x32 : Shape := ⟨2, ![1, 32]⟩
abbrev S512x32 : Shape := ⟨2, ![512, 32]⟩
abbrev S_ : Shape := ⟨0, ![]⟩
abbrev S512x32x512 : Shape := ⟨3, ![512, 32, 512]⟩
abbrev S512x32x1 : Shape := ⟨3, ![512, 32, 1]⟩
abbrev S512x512 : Shape := ⟨2, ![512, 512]⟩

abbrev nBuf : Space → Nat
  | .hbm => 26
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S32, .i32⟩
  | .hbm, ⟨5, _⟩ => ⟨S1x32, .i32⟩
  | .hbm, ⟨6, _⟩ => ⟨S512x32, .i32⟩
  | .hbm, ⟨7, _⟩ => ⟨S512x32, .i32⟩
  | .hbm, ⟨8, _⟩ => ⟨S512x32, .i1⟩
  | .hbm, ⟨9, _⟩ => ⟨S512x32, .i32⟩
  | .hbm, ⟨10, _⟩ => ⟨S_, .i32⟩
  | .hbm, ⟨11, _⟩ => ⟨S_, .i32⟩
  | .hbm, ⟨12, _⟩ => ⟨S512x32, .i32⟩
  | .hbm, ⟨13, _⟩ => ⟨S_, .i32⟩
  | .hbm, ⟨14, _⟩ => ⟨S512x32, .i32⟩
  | .hbm, ⟨15, _⟩ => ⟨S512x32, .i1⟩
  | .hbm, ⟨16, _⟩ => ⟨S512x32, .i1⟩
  | .hbm, ⟨17, _⟩ => ⟨S512x32x512, .f32⟩
  | .hbm, ⟨18, _⟩ => ⟨S512x32x1, .i1⟩
  | .hbm, ⟨19, _⟩ => ⟨S_, .f32⟩
  | .hbm, ⟨20, _⟩ => ⟨S_, .f32⟩
  | .hbm, ⟨21, _⟩ => ⟨S512x32x512, .i1⟩
  | .hbm, ⟨22, _⟩ => ⟨S512x32x512, .f32⟩
  | .hbm, ⟨23, _⟩ => ⟨S512x32x512, .f32⟩
  | .hbm, ⟨24, _⟩ => ⟨S_, .f32⟩
  | .hbm, ⟨25, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.KernelIdealRing.lean ====
/-
# The exchange of expert outputs: cells, contents and schedule

Eight devices exchange their 48 × 512 blocks of expert rows, every device with every other. Device `c` first tells
each of the other seven that it is in the kernel (a signal on the barrier semaphore), waits for their seven signals,
computes its own block, and sends it to device `c + j` for `j = 1 … 7`, where it lands in slot `j`.

The protocol under the rounds library, duty names `Fin 8`:

* the barrier cell of `c` has the seven duties `j = 1 … 7`, duty `j` paid by device `c + j`, which hands over its
  slot `j` — the place device `c`'s copy number `j` is to land in;
* the `j`-th send cell of `c` has one duty, handing the share of its block that copy `j` read back;
* the `j`-th receive cell of `c` has one duty, handing slot `j` holding the block of device `c - j`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.Tactic

@[expose] public section

set_option maxRecDepth 16384

noncomputable section

namespace Cert.KernelIdeal.Exch

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

/-! ## The resource algebra -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Around the mesh -/

/-- The device `j` places after `c`. -/
def nxt (j : Fin 8) (c : Dev nD) : Dev nD := ⟨(c.val + j.val) % 8, Nat.mod_lt _ Nat.succ_pos'⟩
/-- The device `j` places before `c`. -/
def prv (j : Fin 8) (c : Dev nD) : Dev nD := ⟨(c.val + (8 - j.val)) % 8, Nat.mod_lt _ Nat.succ_pos'⟩

theorem prv_nxt (j : Fin 8) (c : Dev nD) : prv j (nxt j c) = c := by revert j c; decide
theorem nxt_prv (j : Fin 8) (c : Dev nD) : nxt j (prv j c) = c := by revert j c; decide

/-- Going `j` places on is a permutation of the devices. -/
def around (j : Fin 8) : Dev nD ≃ Dev nD := ⟨nxt j, prv j, prv_nxt j, nxt_prv j⟩

/-! ## The memrefs and cells -/

abbrev xM : Memref sig .tc .vmem S512x256 .f32 := Memref.whole cc0_stg0_0
abbrev iM : Memref sig .tc .vmem S512x1 .i32 := Memref.whole cc0_stg1_0
abbrev wM : Memref sig .tc .vmem S4x256x512 .f32 := Memref.whole cc0_stg2_0
abbrev oM : Memref sig .tc .vmem S512x512 .f32 := Memref.whole cc0_stg3_0
abbrev cM : Memref sig .tc .vmem S48x512 .bf16 := Memref.whole cc0_scratch0
abbrev gM : Memref sig .tc .vmem S8x48x512 .bf16 := Memref.whole cc0_scratch1

theorem slot_inb (j : Fin 8) : ∀ a, (![j.val, 0, 0] : Fin 3 → Nat) a + S1x48x512.size a ≤ S8x48x512.size a := by
  revert j; decide
theorem expert_inb (e : Fin 4) : ∀ a, (![e.val, 0, 0] : Fin 3 → Nat) a + S1x256x512.size a ≤ S4x256x512.size a := by
  revert e; decide

/-- Slot `j` of the landing buffer, as a 48 × 512 array. -/
abbrev slotM (j : Fin 8) : Memref sig .tc .vmem S48x512 .bf16 :=
  (gM.slice (Rect.unit (s := S8x48x512) ![j.val, 0, 0] S1x48x512.size (slot_inb j)) (fun _ => rfl)).squeeze S48x512 squeezes_S1x48x512_S48x512

/-- The barrier semaphore; the `j`-th send and receive semaphores. -/
abbrev barS : Sem sig := (SemArray.scalar (sig.barrier 0 rfl) : Sems sig S_).sem
def sendS (j : Fin 8) : DmaSem sig := ⟨4 + j.val, by show 4 + j.val < 20; omega⟩
def recvS (j : Fin 8) : DmaSem sig := ⟨12 + j.val, by show 12 + j.val < 20; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

/-- What one copy of a block credits. -/
abbrev N : ℕ := (cM : Memref sig .tc .vmem S48x512 .bf16).view.dmaCredit
theorem N_pos : 0 < N := View.dmaCredit_pos _ (by decide)

/-! ## Contents -/

/-- What the three argument windows stage on device `c`. -/
def xIn (c : Dev nD) : (cc0_stg0_0 : Ref sig .tc).ty.Contents (Elt F) :=
  (win0_0.blk (0 : Fin 1)).view.read (Elt F) (m ((c : Thread nD τ).loc main_arg0))
def iIn (c : Dev nD) : (cc0_stg1_0 : Ref sig .tc).ty.Contents (Elt F) :=
  (win0_1.blk (0 : Fin 1)).view.read (Elt F) (m ((c : Thread nD τ).loc main_arg2))
def wIn (c : Dev nD) : (cc0_stg2_0 : Ref sig .tc).ty.Contents (Elt F) :=
  (win0_2.blk (0 : Fin 1)).view.read (Elt F) (m ((c : Thread nD τ).loc main_arg3))

/-- The device's own number as the kernel computes it. -/
def myW (c : Dev nD) : BitVec 32 := Scalar.remsi (Scalar.divsi (Dev.word c) 1#32) 8#32

/-- The 48 rows device `c` gathers: its four experts' twelve slots. -/
def gathered (c : Dev nD) : FVec F S48x256 .f32 :=
  k0_pay5 (k0_pay1 (F := F) (iIn m c)) (k0_pay2 (iIn m c)) (iota .tc S512x48 32 [1] iota_S512x48_d1_w32) (Scalar.muli (myW c) 4#32) 12#32
    k0_pay3 k0_pay4 (Scalar.extui (Scalar.cmpi .sgt 12#32 0#32)) (Scalar.cmpi .slt 12#32 0#32) (xIn m c)
/-- The first twelve of them, as the kernel cuts them. -/
def gathered0 (c : Dev nD) : FVec F S12x256 .bf16 :=
  k0_pay6 (k0_pay1 (F := F) (iIn m c)) (k0_pay2 (iIn m c)) (iota .tc S512x48 32 [1] iota_S512x48_d1_w32) (Scalar.muli (myW c) 4#32) 12#32
    k0_pay3 k0_pay4 (Scalar.extui (Scalar.cmpi .sgt 12#32 0#32)) (Scalar.cmpi .slt 12#32 0#32) (xIn m c)

/-- The weights of the `e`-th expert of device `c`. -/
def wSl (c : Dev nD) (e : Fin 4) : Vec F S1x256x512 .f32 :=
  wM.view.readAt (Elt F) (Rect.unit (s := S4x256x512) ![e.val, 0, 0] S1x256x512.size (expert_inb e)).toLoadRect (wIn m c)

/-- The twelve rows of the `e`-th expert of device `c`. -/
def rowBlk (c : Dev nD) : Fin 4 → FVec F S12x512 .bf16
  | 0 => k0_pay7 (gathered0 m c) (wSl m c 0)
  | 1 => k0_pay8 (gathered m c) (wSl m c 1)
  | 2 => k0_pay9 (gathered m c) (wSl m c 2)
  | 3 => k0_pay11 (k0_pay10 (gathered m c) (wSl m c 3))

/-- Device `c`'s block: its experts' rows, one expert after the other. -/
def cval (c : Dev nD) : (cc0_scratch0 : Ref sig .tc).ty.Contents (Elt F) :=
  fun (i : S48x512.Idx) => rowBlk m c ⟨(i 0).val / 12, by have := idx2_lt0 i; omega⟩
    (ix2 (⟨(i 0).val % 12, Nat.mod_lt _ Nat.succ_pos'⟩ : Fin 12) (⟨(i 1).val, idx2_lt1 i⟩ : Fin 512))

/-- The landing buffer of device `c` once every block is in: slot `j` holds the block of the device `j` places before. -/
def commVal (c : Dev nD) : (cc0_scratch1 : Ref sig .tc).ty.Contents (Elt F) :=
  fun (i : S8x48x512.Idx) => cval m (prv (⟨(i 0).val, (i 0).isLt⟩ : Fin 8) c)
    (ix2 (⟨(i 1).val, (i 1).isLt⟩ : Fin 48) (⟨(i 2).val, (i 2).isLt⟩ : Fin 512))

/-- Which slot each token picks its row from. -/
def pick (c : Dev nD) : FVec F S512x384 .bf16 :=
  k0_pay21 (k0_pay1 (F := F) (iIn m c)) (k0_pay2 (iIn m c)) (iota .tc S512x384 32 [1] iota_S512x384_d1_w32)
    (k0_pay16 (myW c) k0_pay13 k0_pay14 k0_pay15 0#32) (k0_pay17 (iota .tc S512x384 32 [1] iota_S512x384_d1_w32)) 12#32
    (k0_pay18 (iota .tc S512x384 32 [1] iota_S512x384_d1_w32)) (k0_pay19 (iota .tc S512x384 32 [1] iota_S512x384_d1_w32)) k0_pay20

/-- Slots 0 to 3 and 4 to 7 of the full landing buffer. -/
def comm_lo (c : Dev nD) : Vec F S4x48x512 .bf16 :=
  gM.view.readAt (Elt F) (Rect.unit (s := S8x48x512) ![0, 0, 0] S4x48x512.size inb_S8x48x512_S4x48x512_0_0_0).toLoadRect (commVal m c)
def comm_hi (c : Dev nD) : Vec F S4x48x512 .bf16 :=
  gM.view.readAt (Elt F) (Rect.unit (s := S8x48x512) ![4, 0, 0] S4x48x512.size inb_S8x48x512_S4x48x512_4_0_0).toLoadRect (commVal m c)

/-- The kernel's result on device `c`. -/
def outAt (c : Dev nD) : (cc0_stg3_0 : Ref sig .tc).ty.Contents (Elt F) :=
  k0_pay23 (pick m c) (k0_pay22 (pick m c) (comm_lo m c)) (comm_hi m c)

/-! ## Slots as parts of the landing buffer -/

/-- Slot `j`'s index `(a, b)` is the landing buffer's `(j, a, b)`. -/
theorem slot_emb (j : Fin 8) (k : S48x512.Idx) :
    ((slotM j).view.emb k : S8x48x512.Idx) = ix3 j (⟨(k 0).val, idx2_lt0 k⟩ : Fin 48) (⟨(k 1).val, idx2_lt1 k⟩ : Fin 512) := by
  have hk : k = ix2 (k 0) (k 1) := eq_ix2 k
  have h1 : (slotM j).view.emb k
      = (Rect.unit (s := S8x48x512) ![j.val, 0, 0] S1x48x512.size (slot_inb j)).emb (Shape.reshapeEquiv squeezes_S1x48x512_S48x512.numel_eq k) := rfl
  have h2 : (Shape.reshapeEquiv squeezes_S1x48x512_S48x512.numel_eq k : S1x48x512.Idx)
      = ix3 (⟨0, Nat.one_pos⟩ : Fin 1) (k 0) (k 1) := by
    conv_lhs => rw [hk]
    exact reshapeEquiv_ix2_1ab _ _ _
  rw [h1, h2]
  funext a
  apply Fin.ext
  refine (Rect.emb_apply _ _ _).trans ?_
  match a with
  | ⟨0, _⟩ => show j.val + 1 * 0 = j.val; omega
  | ⟨1, _⟩ => show 0 + 1 * (k 0).val = (k 0).val; omega
  | ⟨2, _⟩ => show 0 + 1 * (k 1).val = (k 1).val; omega

/-- The elements of slot `j`: those whose first coordinate is `j`. -/
def slotSet (j : Fin 8) : Finset S8x48x512.Idx := Finset.univ.filter fun i => (i 0).val = j.val

theorem slot_set (j : Fin 8) : ((slotM j).view.set : Finset S8x48x512.Idx) = slotSet j := by
  ext i
  constructor
  · intro h
    obtain ⟨k, -, hk⟩ := Finset.mem_map.mp h
    refine Finset.mem_filter.mpr ⟨Finset.mem_univ _, ?_⟩
    rw [← hk]
    exact congrArg (fun i : S8x48x512.Idx => (i 0).val) (slot_emb j k)
  · intro h
    have h0 : (i 0).val = j.val := (Finset.mem_filter.mp h).2
    refine Finset.mem_map.mpr ⟨ix2 (⟨(i 1).val, (i 1).isLt⟩ : Fin 48) (⟨(i 2).val, (i 2).isLt⟩ : Fin 512), Finset.mem_univ _, ?_⟩
    refine (slot_emb j _).trans ?_
    funext a
    match a with
    | ⟨0, _⟩ => exact Fin.ext h0.symm
    | ⟨1, _⟩ => rfl
    | ⟨2, _⟩ => rfl

/-- Copying device `prv j c`'s block into slot `j` of device `c` makes the slot hold what the full buffer holds there. -/
theorem landed (j : Fin 8) (c : Dev nD) (fd : (cc0_scratch1 : Ref sig .tc).ty.Contents (Elt F)) (i : S8x48x512.Idx) (hi : i ∈ (slotM j).view.set) :
    (slotM j).view.write (Elt F) fd (cM.view.read (Elt F) (cval m (prv j c))) Finset.univ i = commVal m c i := by
  obtain ⟨k, -, rfl⟩ := Finset.mem_map.mp hi
  refine (View.write_emb_of_mem _ _ (Finset.mem_univ k)).trans ?_
  show cval m (prv j c) k = commVal m c ((slotM j).view.emb k)
  rw [slot_emb j k]
  exact congrArg (cval m (prv j c)) (eq_ix2 k)

/-! ## What is handed over -/

/-- Slot `j` of device `c` holding `f`. -/
def slotPts (c : Dev nD) (j : Fin 8) (f : Buf (Elt F) ((slotM j).view.loc (c : Thread nD τ))) : sProp 𝕄 :=
  (slotM j).view.loc (c : Thread nD τ) ↦[(slotM j).view.set]{fullShare} f
/-- Slot `j` of device `c`, holding anything. -/
def slotAny (c : Dev nD) (j : Fin 8) : sProp 𝕄 := iprop(∃ f, slotPts c j f)
/-- The `j`-th of eight shares of device `c`'s finished block. -/
def blkPts (c : Dev nD) (j : Fin 8) : sProp 𝕄 :=
  cM.view.loc (c : Thread nD τ) ↦[cM.view.set]{leaf 3 fullShare j} cval m c

omit [FloatOps F] in
instance slotPts_storable (c : Dev nD) (j) (f) : BI.Storable (upEmb : UEmb _ 𝕄) (slotPts (F := F) c j f) := by unfold slotPts; infer_instance
omit [FloatOps F] in
instance slotAny_storable (c : Dev nD) (j) : BI.Storable (upEmb : UEmb _ 𝕄) (slotAny (F := F) c j) := by unfold slotAny; infer_instance
instance blkPts_storable (c : Dev nD) (j) : BI.Storable (upEmb : UEmb _ 𝕄) (blkPts (F := F) m c j) := by unfold blkPts; infer_instance

/-! ## The schedule -/

/-- Which send or receive semaphore a DMA semaphore is. -/
def sIdx (q : DmaSem sig) : Fin 8 := ⟨(q.val + 4) % 8, Nat.mod_lt _ Nat.succ_pos'⟩
theorem sIdx_send (j : Fin 8) : sIdx (sendS j) = j := by revert j; decide
theorem sIdx_recv (j : Fin 8) : sIdx (recvS j) = j := by revert j; decide

def dutiesAt (s : SemLoc sig) : Finset (Fin 8) := match s with
  | .reg _ => Finset.univ.erase 0
  | .dma q => if 4 ≤ q.val ∧ sIdx q ≠ 0 then {0} else ∅
def amountAt (s : SemLoc sig) : ℕ := match s with
  | .reg _ => 1
  | .dma _ => N
def payAt (c : Dev nD) (s : SemLoc sig) (d : Fin 8) : sProp 𝕄 := match s with
  | .reg _ => slotAny (nxt d c) d
  | .dma q => if 12 ≤ q.val then slotPts c (sIdx q) (commVal m c) else blkPts m c (sIdx q)

instance payAt_storable (c : Dev nD) (s : SemLoc sig) (d : Fin 8) : BI.Storable (upEmb : UEmb _ 𝕄) (payAt m c s d) := by
  unfold payAt
  cases s with
  | reg s => infer_instance
  | dma q => dsimp only; split <;> infer_instance

/-- One round: a barrier cell's seven duties, one duty for each send and receive cell but the unused number 0. -/
def sched : Rounds.Schedule (GSem nD τ sig) (Fin 8) 𝕄 where
  duties g r := if r = 0 ∧ g.1.2 = .tc then dutiesAt g.2 else ∅
  unitless _ := False
  amount g _ _ := amountAt g.2
  payload g _ d := payAt m g.1.1 g.2 d
  amount_pos g _ _ _ := by
    cases h : g.2 with
    | reg s => exact Nat.one_pos
    | dma q => exact N_pos

instance sched_payload_storable (g : GSem nD τ sig) (r : ℕ) (d : Fin 8) :
    BI.Storable (upEmb : UEmb _ 𝕄) ((sched (F := F) m).payload g r d) := payAt_storable m g.1.1 g.2 d

section Tables
variable (c : Dev nD) (j : Fin 8)

theorem duties_first (s : SemLoc sig) : (sched (F := F) m).duties ((c : Thread nD τ), s) 0 = dutiesAt s := by
  dsimp only [sched]; exact if_pos ⟨rfl, rfl⟩
theorem dutiesAt_dma (q : DmaSem sig) (h4 : 4 ≤ q.val) (hj : sIdx q ≠ 0) : dutiesAt (.dma q) = {0} := if_pos ⟨h4, hj⟩
theorem dutiesAt_dma0 (q : DmaSem sig) (hj : sIdx q = 0) : dutiesAt (.dma q) = ∅ := if_neg fun h => h.2 hj
theorem duties_bar : (sched (F := F) m).duties (barCell c) 0 = Finset.univ.erase 0 := duties_first m c _
theorem duties_send (hj : j ≠ 0) : (sched (F := F) m).duties (sendCell c j) 0 = {0} :=
  (duties_first m c _).trans (dutiesAt_dma _ (Nat.le_add_right 4 _) (by rw [sIdx_send]; exact hj))
theorem duties_recv (hj : j ≠ 0) : (sched (F := F) m).duties (recvCell c j) 0 = {0} :=
  (duties_first m c _).trans (dutiesAt_dma _ (by show 4 ≤ 12 + j.val; omega) (by rw [sIdx_recv]; exact hj))
theorem duties_later (g : GSem nD τ sig) : ∀ r, 1 ≤ r → (sched (F := F) m).duties g r = ∅ := fun r hr => by
  dsimp only [sched]; exact if_neg fun h => by omega
/-- The unused cells have no duty at all. -/
theorem duties_send0 : ∀ r, 0 ≤ r → (sched (F := F) m).duties (sendCell c 0) r = ∅ := fun r _ => by
  rcases Nat.eq_zero_or_pos r with rfl | h
  · exact (duties_first m c _).trans (dutiesAt_dma0 _ (sIdx_send 0))
  · exact duties_later m _ r h
theorem duties_recv0 : ∀ r, 0 ≤ r → (sched (F := F) m).duties (recvCell c 0) r = ∅ := fun r _ => by
  rcases Nat.eq_zero_or_pos r with rfl | h
  · exact (duties_first m c _).trans (dutiesAt_dma0 _ (sIdx_recv 0))
  · exact duties_later m _ r h

theorem expect_bar : (sched (F := F) m).expect (barCell c) 0 = 7 := by
  unfold Schedule.expect Schedule.amountOf
  rw [duties_bar]
  exact (Finset.sum_congr rfl fun d _ => (show (sched (F := F) m).amount (barCell c) 0 d = 1 from rfl)).trans (by decide)
theorem expect_send (hj : j ≠ 0) : (sched (F := F) m).expect (sendCell c j) 0 = N := by
  unfold Schedule.expect Schedule.amountOf; rw [duties_send m c j hj, Finset.sum_singleton]; rfl
theorem expect_recv (hj : j ≠ 0) : (sched (F := F) m).expect (recvCell c j) 0 = N := by
  unfold Schedule.expect Schedule.amountOf; rw [duties_recv m c j hj, Finset.sum_singleton]; rfl

theorem payload_bar (d : Fin 8) : (sched (F := F) m).payload (barCell c) 0 d = slotAny (nxt d c) d := rfl
theorem payload_send (d : Fin 8) : (sched (F := F) m).payload (sendCell c j) 0 d = blkPts m c j :=
  (if_neg (by show ¬12 ≤ 4 + j.val; omega)).trans (by rw [sIdx_send])
theorem payload_recv (d : Fin 8) : (sched (F := F) m).payload (recvCell c j) 0 d = slotPts c j (commVal m c) := by
  show (if 12 ≤ 12 + j.val then slotPts c (sIdx (recvS j)) (commVal m c) else blkPts m c (sIdx (recvS j))) = _
  rw [if_pos (Nat.le_add_right 12 _), sIdx_recv]

/-- What the barrier wait hands over: the other seven devices' slots for this device's copies. -/
theorem rest_bar : bigSep ((sched (F := F) m).duties (barCell c) 0 \ ∅) (fun d => (sched (F := F) m).payload (barCell c) 0 d)
    = iprop(slotAny (nxt 1 c) 1 ∗ slotAny (nxt 2 c) 2 ∗ slotAny (nxt 3 c) 3 ∗ slotAny (nxt 4 c) 4 ∗ slotAny (nxt 5 c) 5 ∗ slotAny (nxt 6 c) 6
        ∗ slotAny (nxt 7 c) 7) := by
  rw [Finset.sdiff_empty, duties_bar, bigSep_eq_bigSepL_of_eq [1, 2, 3, 4, 5, 6, 7] (by decide) (by decide)]
  rfl
theorem rest_send (hj : j ≠ 0) :
    bigSep ((sched (F := F) m).duties (sendCell c j) 0 \ ∅) (fun d => (sched (F := F) m).payload (sendCell c j) 0 d) = blkPts m c j := by
  rw [Finset.sdiff_empty, duties_send m c j hj, bigSep_singleton, payload_send]
theorem rest_recv (hj : j ≠ 0) :
    bigSep ((sched (F := F) m).duties (recvCell c j) 0 \ ∅) (fun d => (sched (F := F) m).payload (recvCell c j) 0 d) = slotPts c j (commVal m c) := by
  rw [Finset.sdiff_empty, duties_recv m c j hj, bigSep_singleton, payload_recv]

end Tables

/-! ## What each device owes; the levels -/

/-- The receive credits device `c` still owes with `n` copies to go: copies `8 - n … 7`. -/
def oR (c : Dev nD) : ℕ → CellTallies nD τ sig Unit
  | 0 => 0
  | n + 1 => oR c n + tallyAt (recvCell (nxt ⟨7 - n, by omega⟩ c) ⟨7 - n, by omega⟩) () N
/-- With `n` signals to go: those to the devices `8 - n … 7` places on, and every receive credit. -/
def oB (c : Dev nD) : ℕ → CellTallies nD τ sig Unit
  | 0 => oR c 7
  | n + 1 => oB c n + tallyAt (barCell (nxt ⟨7 - n, by omega⟩ c)) () 1
/-- What device `c` owes at launch. -/
def O₀ (c : Dev nD) : CellTallies nD τ sig Unit := oB c 7

def L (g : GSem nD τ sig) : Finset Unit := if g.1.2 = .tc then {()} else ∅
/-- barrier cells at 1, receive cells at 2, everything else (staging, send) at 0. -/
def lv (g : GSem nD τ sig) (_ : Unit) : ℕ := match g.2 with
  | .reg _ => 1
  | .dma q => if 12 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : Fin 8) : lv (recvCell c j) () = 2 := if_pos (Nat.le_add_right 12 _)

theorem oR_pos {c : Dev nD} {g : GSem nD τ sig} {u : Unit} : ∀ {n : ℕ}, 0 < oR c n g u → ∃ d j, g = recvCell d j
  | 0, h => absurd h (Nat.lt_irrefl 0)
  | n + 1, h => by
    unfold oR at h
    rw [Pi.add_apply, Finsupp.add_apply, tallyAt_apply] at h
    by_cases hg : g = recvCell (nxt ⟨7 - n, by omega⟩ c) ⟨7 - n, by omega⟩ ∧ u = ()
    · exact ⟨_, _, hg.1⟩
    · rw [if_neg hg, Nat.add_zero] at h; exact oR_pos h
theorem oB_pos {c : Dev nD} {g : GSem nD τ sig} {u : Unit} : ∀ {n : ℕ}, 0 < oB c n g u → (∃ d j, g = recvCell d j) ∨ ∃ d, g = barCell d
  | 0, h => Or.inl (oR_pos h)
  | n + 1, h => by
    unfold oB at h
    rw [Pi.add_apply, Finsupp.add_apply, tallyAt_apply] at h
    by_cases hg : g = barCell (nxt ⟨7 - n, by omega⟩ c) ∧ u = ()
    · exact Or.inr ⟨_, hg.1⟩
    · rw [if_neg hg, Nat.add_zero] at h; exact oB_pos h

omit [FloatOps F] in
/-- A staging wait is below everything a device ever owes. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oB_pos hg with ⟨d, j, rfl⟩ | ⟨d, rfl⟩ <;> exact Finset.mem_singleton_self _)
      (fun p hp => by rw [Finset.mem_singleton.mp hp]; exact (if_neg (Nat.not_le.mpr hq)).le)
      (fun g u hg => by
        rcases oB_pos hg with ⟨d, j, rfl⟩ | ⟨d, rfl⟩
        · rw [show lv (recvCell d j) u = 2 from lv_recv d j]; decide
        · exact Nat.one_pos)
  · rw [MayWait_zero]; iintro -; iempintro

omit [FloatOps F] in
/-- At its barrier wait a device owes receive credits only: receive cells are above the barrier's. -/
theorem mayWait_bar (c : Dev nD) : (levAts L lv : sProp 𝕄) ⊢ MayWait (c : Thread nD τ) (.reg barS) () (oR c 7) :=
  MayOwe.of_cut (L := L) (lev := lv) 1 (fun p hp => by rw [Finset.mem_singleton.mp hp, L_tc]; exact Finset.mem_singleton_self _)
    (fun g u hg => by obtain ⟨d, j, rfl⟩ := oR_pos hg; exact Finset.mem_singleton_self _)
    (fun p hp => by rw [Finset.mem_singleton.mp hp]; exact Nat.le_refl 1)
    (fun g u hg => by
      obtain ⟨d, j, rfl⟩ := oR_pos hg
      rw [show lv (recvCell d j) u = 2 from lv_recv d j]; decide)

end Cert.KernelIdeal.Exch

end
-- ==== Proof.KernelIdealSteps.lean ====
/-
# One rule per kind of step

The cells' invariants and what a device starts from; then the rule of each kind of step the kernel takes — a signal, the
barrier wait, a copy sent, a copy waited for, a copy's source waited for — each once for all seven peers.
-/
module

public import proofs.«01_k».proof.Proof.KernelIdealRing

@[expose] public section

set_option maxRecDepth 16384

noncomputable section

namespace Cert.KernelIdeal.Exch

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-! ## The cells, numbered -/

/-- A device's cells: the barrier, then the eight send and the eight receive semaphores. -/
def csem (k : Fin 17) : SemLoc sig :=
  if k.val = 0 then .reg barS else .dma ⟨3 + k.val, by show 3 + k.val < 20; omega⟩
abbrev kcell (ck : Dev nD × Fin 17) : GSem nD τ sig := ((ck.1 : Thread nD τ), csem ck.2)
def sIx (j : Fin 8) : Fin 17 := ⟨1 + j.val, by omega⟩
def vIx (j : Fin 8) : Fin 17 := ⟨9 + j.val, by omega⟩

theorem kcell_bar (c : Dev nD) : kcell (c, 0) = barCell c := rfl
theorem kcell_send (c : Dev nD) (j : Fin 8) : kcell (c, sIx j) = sendCell c j := by
  have h : csem (sIx j) = .dma (sendS j) := by revert j; decide
  unfold kcell; rw [h]
theorem kcell_recv (c : Dev nD) (j : Fin 8) : kcell (c, vIx j) = recvCell c j := by
  have h : csem (vIx j) = .dma (recvS j) := by revert j; decide
  unfold kcell; rw [h]

/-! ## The invariants -/

/-- Every cell's invariant, at the names `K`, and that every cell has reached round 0. -/
def records (K : Dev nD × Fin 17 → ℕ) : sProp 𝕄 :=
  iprop(bigSep Finset.univ (fun ck => cellInv ER (sched m) (K ck) (kcell ck)) ∗ bigSep Finset.univ fun ck => reached ER (kcell ck) 0)

instance records_persistent (K : Dev nD × Fin 17 → ℕ) : BI.Persistent (records m K) := by unfold records; infer_instance

theorem inv_at (K : Dev nD × Fin 17 → ℕ) (c : Dev nD) (k : Fin 17) : records m K ⊢ cellInv ER (sched m) (K (c, k)) (kcell (c, k)) := by
  have h : (bigSep Finset.univ fun ck : Dev nD × Fin 17 => (cellInv ER (sched m) (K ck) (kcell ck) : sProp 𝕄))
      ⊢ cellInv ER (sched m) (K (c, k)) (kcell (c, k)) := bigSep_elim (Finset.mem_univ (c, k))
  unfold records
  iintro ⟨H, -⟩
  iapply h; iexact H
theorem reached_at (K : Dev nD × Fin 17 → ℕ) (c : Dev nD) (k : Fin 17) : records m K ⊢ reached ER (kcell (c, k)) 0 := by
  have h : (bigSep Finset.univ fun ck : Dev nD × Fin 17 => (reached ER (kcell ck) 0 : sProp 𝕄)) ⊢ reached ER (kcell (c, k)) 0 :=
    bigSep_elim (Finset.mem_univ (c, k))
  unfold records
  iintro ⟨-, H⟩
  iapply h; iexact H

theorem inv_bar (K : Dev nD × Fin 17 → ℕ) (c : Dev nD) : records m K ⊢ cellInv ER (sched m) (K (c, 0)) (barCell c) := inv_at m K c 0
theorem inv_send (K : Dev nD × Fin 17 → ℕ) (c : Dev nD) (j : Fin 8) : records m K ⊢ cellInv ER (sched m) (K (c, sIx j)) (sendCell c j) :=
  (inv_at m K c (sIx j)).trans (Entails.of_eq (by rw [kcell_send]))
theorem inv_recv (K : Dev nD × Fin 17 → ℕ) (c : Dev nD) (j : Fin 8) : records m K ⊢ cellInv ER (sched m) (K (c, vIx j)) (recvCell c j) :=
  (inv_at m K c (vIx j)).trans (Entails.of_eq (by rw [kcell_recv]))
theorem reached_bar (K : Dev nD × Fin 17 → ℕ) (c : Dev nD) : records m K ⊢ reached ER (barCell c) 0 := reached_at m K c 0
theorem reached_send (K : Dev nD × Fin 17 → ℕ) (c : Dev nD) (j : Fin 8) : records m K ⊢ reached ER (sendCell c j) 0 :=
  (reached_at m K c (sIx j)).trans (Entails.of_eq (by rw [kcell_send]))
theorem reached_recv (K : Dev nD × Fin 17 → ℕ) (c : Dev nD) (j : Fin 8) : records m K ⊢ reached ER (recvCell c j) 0 :=
  (reached_at m K c (vIx j)).trans (Entails.of_eq (by rw [kcell_recv]))

/-! ## The rules -/

/-- What a device owes, its record of waits left open. -/
def owesE (c : Dev nD) (O : CellTallies nD τ sig Unit) : sProp 𝕄 := iprop(∃ W : Waits sig Unit, owes (c : Thread nD τ) O W)

abbrev 𝒱₀ : Variants := Variants.none

theorem nxt_neg (o : Fin 8) (c : Dev nD) : nxt (-o) (nxt o c) = c := by revert o c; decide

section Rules
variable (K : Dev nD × Fin 17 → ℕ)

/-- A signal to the device `o` places on: its duty `-o`, handing over the own slot `-o`. -/
theorem wp_sig (c n : Dev nD) (o : Fin 8) (hn : n = nxt o c) (ho : -o ≠ 0) {O : CellTallies nD τ sig Unit} (O' : CellTallies nD τ sig Unit)
    (hO : O = O' + tallyAt (barCell (nxt o c)) () 1) {α : Type} {Q : α → sProp 𝕄}
    {k : PUnit → Prog (TpuEff nD τ sig (Elt F) Λ₀ .tc) α} :
    iprop(records m K ∗ owesE c O ∗ dutyTok ER (barCell (nxt o c)) 0 (-o) ∗ slotAny c (-o))
      ⊢ iprop((owesE c O' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS ((1 : ℕ) : ℤ)) k) Q) := by
  subst hn
  iintro ⟨#HR, HO, Ht, Hs⟩ Hk
  unfold owesE
  icases HO with ⟨%W, HO⟩
  iapply (Rounds.wp_signal 𝒱₀ ER (sched m) (c : Thread nD τ) none (dst := (nxt o c : Thread nD τ)) (κ := K (nxt o c, 0))
      (d := -o) (r := 0) (k' := 1) (by rw [duties_bar]; exact Finset.mem_erase.mpr ⟨ho, Finset.mem_univ _⟩) rfl () O' hO (W := W)) $$ [HO Ht Hs]
  · isplitr; · iapply (inv_bar m K (nxt o c)); iexact HR
    isplitl [HO]; · iexact HO
    isplitl [Ht]; · iexact Ht
    isplitl [Hs]
    · rw [payload_bar, nxt_neg]; iexact Hs
    iapply (reached_bar m K (nxt o c)); iexact HR
  iintro HO
  iapply Hk
  iexists W; iexact HO

/-- The wait for all seven signals. -/
theorem wp_wait_bar (c : Dev nD) {α : Type} {Q : α → sProp 𝕄}
    {k : PUnit → Prog (TpuEff nD τ sig (Elt F) Λ₀ .tc) α} :
    iprop(records m K ∗ levAts L lv ∗ cred (tallyAt (barCell c) () 7) ∗ owesE c (oR c 7) ∗ atPos ER (barCell c) 0 ∅ 0)
      ⊢ iprop(((owesE c (oR c 7) ∗ atPos ER (barCell c) 1 ∅ 0 ∗ slotAny (nxt 1 c) 1 ∗ slotAny (nxt 2 c) 2 ∗ slotAny (nxt 3 c) 3 ∗ slotAny (nxt 4 c) 4
              ∗ slotAny (nxt 5 c) 5 ∗ slotAny (nxt 6 c) 6 ∗ slotAny (nxt 7 c) 7)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS ((7 : ℕ) : ℤ)) k) Q) := by
  iintro ⟨#HR, #Hlev, Hc, HO, Hat⟩ Hk
  unfold owesE
  icases HO with ⟨%W, HO⟩
  iapply (Rounds.wp_wait_rest_token 𝒱₀ ER (sched m) (c : Thread nD τ) none (κ := K (c, 0))
      (wpE_semWait_eq 𝒱₀ (c : Thread nD τ) none Set.univ) (Set.mem_univ _) () (O := oR c 7) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The copy to the device `o` places on. -/
theorem wp_put (c n : Dev nD) (o : Fin 8) (hn : n = nxt o c) (ho : o ≠ 0) {v : Memref sig .tc .vmem S48x512 .bf16} (hv : v = slotM o)
    {sS sR : DmaSem sig} (hS : sS = sendS o) (hR : sR = recvS o) {O : CellTallies nD τ sig Unit} (O' : CellTallies nD τ sig Unit)
    (hO : O = O' + tallyAt (recvCell (nxt o c) o) () N)
    {hsc : (v : Memref sig (Dev.tc n : Thread nD τ).2.kind .vmem S48x512 .bf16).view.ref.isScScratch = false}
    {hsrc : (cM : Memref sig .tc .vmem S48x512 .bf16).view.WordExact} {hdst : v.view.WordExact}
    {hsem : DmaTarget.Typed .vmem (.dma sR) (.remote (Dev.tc n : Thread nD τ) (v : Memref sig .tc .vmem S48x512 .bf16) (.dma sS) hsc)}
    {α : Type} {Q : α → sProp 𝕄}
    {k : PUnit → Prog (TpuEff nD τ sig (Elt F) Λ₀ .tc) α} :
    iprop(records m K ∗ owesE c O ∗ dutyTok ER (sendCell c o) 0 0 ∗ dutyTok ER (recvCell (nxt o c) o) 0 0 ∗ blkPts m c o ∗ slotAny (nxt o c) o)
      ⊢ iprop(((cred (tallyAt (sendCell c o) () N) ∗ owesE c O') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cM (.remote (Dev.tc n : Thread nD τ) v (.dma sS) hsc) (.dma sR) hsrc hdst hsem) k) Q) := by
  subst hn hv hS hR
  iintro ⟨#HR, HO, HtS, HtR, Hb, Hs⟩ Hk
  unfold owesE slotAny
  icases HO with ⟨%W, HO⟩
  icases Hs with ⟨%fn, Hs⟩
  unfold blkPts slotPts
  iapply (Rounds.wp_send_pointsTo 𝒱₀ ER (sched m) (c : Thread nD τ) none (κ₁ := K (c, sIx o)) (κ₂ := K (nxt o c, vIx o))
    (r₁ := 0) (r₂ := 0) (d₁ := 0) (d₂ := 0) (fs := cval m c) (fd := fn) (q := leaf 3 fullShare o)
    (by rw [duties_send m c o ho]; exact Finset.mem_singleton_self _) (by rw [duties_recv m _ o ho]; exact Finset.mem_singleton_self _)
    () () N rfl rfl rfl O' hO (W := W)
    (by rw [payload_send]; exact BI.Entails.refl _)
    (by
      rw [payload_recv]; unfold slotPts
      refine Entails.of_eq (pointsTo_congr fun i hi => ?_)
      have := landed m o (nxt o c) fn i hi
      rw [prv_nxt] at this; exact this)) $$ [HO HtS HtR Hb Hs]
  · isplitr; · iapply (inv_send m K c o); iexact HR
    isplitr; · iapply (inv_recv m K (nxt o c) o); iexact HR
    isplitl [Hb]; · iexact Hb
    isplitl [Hs]; · iexact Hs
    isplitl [HO]; · iexact HO
    isplitl [HtS]; · iexact HtS
    isplitr; · iapply (reached_send m K c o); iexact HR
    isplitl [HtR]; · iexact HtR
    iapply (reached_recv m K (nxt o c) o); iexact HR
  iintro ⟨Hc, HO⟩
  iapply Hk
  isplitl [Hc]; · iexact Hc
  iexists W; iexact HO

/-- The wait for the copy from the device `o` places before: slot `o` holds that device's block. -/
theorem wp_get (c : Dev nD) (o : Fin 8) (ho : o ≠ 0) {v : Memref sig .tc .vmem S48x512 .bf16} (hv : v = slotM o)
    {sR : DmaSem sig} (hR : sR = recvS o)
    {hsrc : (cM : Memref sig .tc .vmem S48x512 .bf16).view.WordExact} {hdst : v.view.WordExact}
    {α : Type} {Q : α → sProp 𝕄}
    {k : PUnit → Prog (TpuEff nD τ sig (Elt F) Λ₀ .tc) α} :
    iprop(records m K ∗ owesE c 0 ∗ cred (tallyAt (recvCell c o) () N) ∗ atPos ER (recvCell c o) 0 ∅ 0)
      ⊢ iprop(((owesE c 0 ∗ atPos ER (recvCell c o) 1 ∅ 0 ∗ slotPts c o (commVal m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR cM v hsrc hdst) k) Q) := by
  subst hv hR
  iintro ⟨#HR, HO, Hc, Hat⟩ Hk
  unfold owesE
  icases HO with ⟨%W, HO⟩
  iapply (Rounds.wp_wait_rest_token 𝒱₀ ER (sched m) (c : Thread nD τ) none (κ := K (c, vIx o))
      (wpE_waitDma2_eq 𝒱₀ (c : Thread nD τ) none Set.univ) (Set.mem_univ _) () (O := 0) (W := W) (R := 0) (m := 0) (T := ∅)
      (by rw [Nat.zero_add, expect_recv m c o ho])) $$ [Hc HO Hat]
  · isplitr; · iapply (inv_recv m K c o); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c o ho)) $$ Hpay
  iapply Hk
  isplitl [HO]; · iexists _; iexact HO
  isplitl [Hat]; · iexact Hat
  iexact Hp

/-- The wait for the own copy `o` to have been read: its share of the block back. -/
theorem wp_sent (c : Dev nD) (o : Fin 8) (ho : o ≠ 0) {v : Memref sig .tc .vmem S48x512 .bf16}
    {sS : DmaSem sig} (hS : sS = sendS o)
    {hdst : (cM : Memref sig .tc .vmem S48x512 .bf16).view.WordExact} {hsrc : v.view.WordExact}
    {α : Type} {Q : α → sProp 𝕄}
    {k : PUnit → Prog (TpuEff nD τ sig (Elt F) Λ₀ .tc) α} :
    iprop(records m K ∗ owesE c 0 ∗ cred (tallyAt (sendCell c o) () N) ∗ atPos ER (sendCell c o) 0 ∅ 0)
      ⊢ iprop(((owesE c 0 ∗ atPos ER (sendCell c o) 1 ∅ 0 ∗ blkPts m c o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS v cM hsrc hdst) k) Q) := by
  subst hS
  iintro ⟨#HR, HO, Hc, Hat⟩ Hk
  unfold owesE
  icases HO with ⟨%W, HO⟩
  iapply (Rounds.wp_wait_rest_token 𝒱₀ ER (sched m) (c : Thread nD τ) none (κ := K (c, sIx o))
      (wpE_waitDma2_eq 𝒱₀ (c : Thread nD τ) none Set.univ) (Set.mem_univ _) () (O := 0) (W := W) (R := 0) (m := 0) (T := ∅)
      (by rw [Nat.zero_add, expect_send m c o ho])) $$ [Hc HO Hat]
  · isplitr; · iapply (inv_send m K c o); iexact HR
    isplitl [Hc]; · iexact Hc
    isplitl [HO]; · iexact HO
    isplitr; · rw [MayWait_zero]; iempintro
    iexact Hat
  iintro ⟨HO, Hat, -, Hpay⟩
  ihave Hp := (Entails.of_eq (rest_send m c o ho)) $$ Hpay
  iapply Hk
  isplitl [HO]; · iexists _; iexact HO
  isplitl [Hat]; · iexact Hat
  iexact Hp

end Rules

/-! ## Cells closing -/

theorem close_cell (K : Dev nD × Fin 17 → ℕ) (c : Dev nD) (k : Fin 17) (R : ℕ) (hR : ∀ r, R ≤ r → (sched (F := F) m).duties (kcell (c, k)) r = ∅) :
    iprop(records m K ∗ atPos ER (kcell (c, k)) R ∅ 0) ⊢ iprop(|={Set.univ}=> (semVal (kcell (c, k)) 0 : sProp 𝕄)) := by
  refine (sep_mono_left (inv_at m K c k)).trans ?_
  exact Rounds.cell_close ER (sched m) (Set.mem_univ (K (c, k))) (fun h => h) hR

end Cert.KernelIdeal.Exch

end
-- ==== Proof.KernelIdealMem.lean ====
/-
# The two scratch buffers

The landing buffer as its eight slots and its two halves; the device's block as its eight shares and as its four stores.
-/
module

public import proofs.«01_k».proof.Proof.KernelIdealSteps

@[expose] public section

set_option maxRecDepth 16384

noncomputable section

namespace Cert.KernelIdeal.Exch

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-! ## Slots of the landing buffer -/

/-- A region made up of disjoint parts is held by holding the parts. -/
theorem parts_eq {ℓ : Loc nD τ sig} (S : Finset (Fin 8)) (A : Fin 8 → Finset (Idx ℓ)) (R : Finset (Idx ℓ)) (f : Buf (Elt F) ℓ)
    (hd : ∀ t ∈ S, ∀ t' ∈ S, t ≠ t' → Disjoint (A t) (A t')) (hR : ∀ i, i ∈ R ↔ ∃ t ∈ S, i ∈ A t) :
    (ℓ ↦[R]{fullShare} f : sProp 𝕄) = bigSep S fun t => (ℓ ↦[A t]{fullShare} f : sProp 𝕄) := by
  rw [← pointsTo_biUnion S A hd]
  congr 1
  ext i
  rw [hR, Finset.mem_biUnion]

/-- Slots 0 to 3, and 4 to 7, each half as one. -/
def loSet : Finset S8x48x512.Idx := Finset.univ.filter fun i => (i 0).val < 4
def hiSet : Finset S8x48x512.Idx := Finset.univ.filter fun i => 4 ≤ (i 0).val

theorem slots_disjoint (j j' : Fin 8) (h : j ≠ j') : Disjoint (slotSet j) (slotSet j') := Finset.disjoint_left.mpr fun i hi hi' =>
  h (Fin.ext ((Finset.mem_filter.mp hi).2.symm.trans (Finset.mem_filter.mp hi').2))

theorem slotPts_eq (c : Dev nD) (j : Fin 8) (f : Buf (Elt F) ((c : Thread nD τ).loc cc0_scratch1)) :
    slotPts c j f = ((c : Thread nD τ).loc cc0_scratch1 ↦[slotSet j]{fullShare} f : sProp 𝕄) := by
  have h : slotPts c j f = ((c : Thread nD τ).loc cc0_scratch1 ↦[(slotM j).view.set]{fullShare} f : sProp 𝕄) := rfl
  rw [h, slot_set j]

theorem mem_slot (i : S8x48x512.Idx) (j : Fin 8) : i ∈ slotSet j ↔ (i 0).val = j.val := by
  unfold slotSet; rw [Finset.mem_filter]; exact ⟨fun h => h.2, fun h => ⟨Finset.mem_univ _, h⟩⟩

/-- The whole landing buffer, slot by slot. -/
theorem slots_split (c : Dev nD) (f : Buf (Elt F) ((c : Thread nD τ).loc cc0_scratch1)) :
    ((c : Thread nD τ).loc cc0_scratch1 ↦{fullShare} f : sProp 𝕄)
      = iprop(slotPts c 0 f ∗ slotPts c 1 f ∗ slotPts c 2 f ∗ slotPts c 3 f ∗ slotPts c 4 f ∗ slotPts c 5 f ∗ slotPts c 6 f ∗ slotPts c 7 f) := by
  simp only [slotPts_eq]
  refine (parts_eq (ℓ := (c : Thread nD τ).loc cc0_scratch1) Finset.univ slotSet Finset.univ f (fun t _ t' _ h => slots_disjoint t t' h)
    (fun (i : S8x48x512.Idx) => ⟨fun _ => ⟨⟨(i 0).val, (i 0).isLt⟩, Finset.mem_univ _, (mem_slot i _).mpr rfl⟩, fun _ => Finset.mem_univ _⟩)).trans ?_
  rw [bigSep_univ_eq_bigSepL [0, 1, 2, 3, 4, 5, 6, 7] (by decide) (by decide)]
  rfl
theorem slots_lo (c : Dev nD) (f : Buf (Elt F) ((c : Thread nD τ).loc cc0_scratch1)) :
    ((c : Thread nD τ).loc cc0_scratch1 ↦[loSet]{fullShare} f : sProp 𝕄)
      = iprop(slotPts c 0 f ∗ slotPts c 1 f ∗ slotPts c 2 f ∗ slotPts c 3 f) := by
  simp only [slotPts_eq]
  refine (parts_eq (ℓ := (c : Thread nD τ).loc cc0_scratch1) {0, 1, 2, 3} slotSet loSet f (fun t _ t' _ h => slots_disjoint t t' h)
    (fun (i : S8x48x512.Idx) => ?_)).trans ?_
  · have hk : ∀ k : Fin 8, k.val < 4 ↔ ∃ t ∈ ({0, 1, 2, 3} : Finset (Fin 8)), k.val = t.val := by decide
    exact ⟨fun h => let ⟨t, ht, e⟩ := (hk (i 0)).mp (Finset.mem_filter.mp h).2; ⟨t, ht, (mem_slot i t).mpr e⟩,
      fun ⟨t, ht, e⟩ => Finset.mem_filter.mpr ⟨Finset.mem_univ _, (hk (i 0)).mpr ⟨t, ht, (mem_slot i t).mp e⟩⟩⟩
  rw [bigSep_eq_bigSepL_of_eq [0, 1, 2, 3] (by decide) (by decide)]
  rfl
theorem slots_hi (c : Dev nD) (f : Buf (Elt F) ((c : Thread nD τ).loc cc0_scratch1)) :
    ((c : Thread nD τ).loc cc0_scratch1 ↦[hiSet]{fullShare} f : sProp 𝕄)
      = iprop(slotPts c 4 f ∗ slotPts c 5 f ∗ slotPts c 6 f ∗ slotPts c 7 f) := by
  simp only [slotPts_eq]
  refine (parts_eq (ℓ := (c : Thread nD τ).loc cc0_scratch1) {4, 5, 6, 7} slotSet hiSet f (fun t _ t' _ h => slots_disjoint t t' h)
    (fun (i : S8x48x512.Idx) => ?_)).trans ?_
  · have hk : ∀ k : Fin 8, 4 ≤ k.val ↔ ∃ t ∈ ({4, 5, 6, 7} : Finset (Fin 8)), k.val = t.val := by decide
    exact ⟨fun h => let ⟨t, ht, e⟩ := (hk (i 0)).mp (Finset.mem_filter.mp h).2; ⟨t, ht, (mem_slot i t).mpr e⟩,
      fun ⟨t, ht, e⟩ => Finset.mem_filter.mpr ⟨Finset.mem_univ _, (hk (i 0)).mpr ⟨t, ht, (mem_slot i t).mp e⟩⟩⟩
  rw [bigSep_eq_bigSepL_of_eq [4, 5, 6, 7] (by decide) (by decide)]
  rfl

abbrev rLo : Rect S8x48x512 := Rect.unit (s := S8x48x512) ![0, 0, 0] S4x48x512.size inb_S8x48x512_S4x48x512_0_0_0
abbrev rHi : Rect S8x48x512 := Rect.unit (s := S8x48x512) ![4, 0, 0] S4x48x512.size inb_S8x48x512_S4x48x512_4_0_0
abbrev rS0 : Rect S8x48x512 := Rect.unit (s := S8x48x512) ![0, 0, 0] S1x48x512.size inb_S8x48x512_S1x48x512_0_0_0

theorem mem_setOn_whole {R : Finset S8x48x512.Idx} {i : S8x48x512.Idx}
    (h : i ∈ (gM : Memref sig .tc .vmem S8x48x512 .bf16).view.setOn R) : i ∈ R := by
  obtain ⟨k, hk, e⟩ := Finset.mem_map.mp h
  have e' : k = i := e
  exact e' ▸ hk

theorem load_lo : (gM : Memref sig .tc .vmem S8x48x512 .bf16).view.setOn rLo.toLoadRect.set ⊆ loSet := fun i hi => by
  have h := (Rect.mem_set_unit.mp (mem_setOn_whole hi)) (0 : Fin 3)
  have h0 : (i 0).val < 4 := by have := h.2; simpa using this
  exact Finset.mem_filter.mpr ⟨Finset.mem_univ _, h0⟩
theorem load_hi : (gM : Memref sig .tc .vmem S8x48x512 .bf16).view.setOn rHi.toLoadRect.set ⊆ hiSet := fun i hi => by
  have h := (Rect.mem_set_unit.mp (mem_setOn_whole hi)) (0 : Fin 3)
  have h0 : 4 ≤ (i 0).val := by have := h.1; simpa using this
  exact Finset.mem_filter.mpr ⟨Finset.mem_univ _, h0⟩
theorem load_s0 : (gM : Memref sig .tc .vmem S8x48x512 .bf16).view.setOn rS0.toLoadRect.set ⊆ (slotM 0).view.set := fun i hi => by
  have h := (Rect.mem_set_unit.mp (mem_setOn_whole hi)) (0 : Fin 3)
  have h0 : (i 0).val < 1 := by have := h.2; simpa using this
  rw [slot_set]
  exact Finset.mem_filter.mpr ⟨Finset.mem_univ _, by show (i 0).val = 0; omega⟩

theorem store_s0 : ((gM : Memref sig .tc .vmem S8x48x512 .bf16).access rS0 : View sig .tc _ _ _).setOn Finset.univ ⊆ (slotM 0).view.set := fun i hi => by
  rw [slot_set]
  obtain ⟨k, -, rfl⟩ := Finset.mem_map.mp hi
  refine Finset.mem_filter.mpr ⟨Finset.mem_univ _, ?_⟩
  have e : ((((gM : Memref sig .tc .vmem S8x48x512 .bf16).access rS0 : View sig .tc _ _ _).emb k : S8x48x512.Idx) 0).val = 0 + 1 * (k 0).val := Rect.emb_apply _ _ _
  have hk : (k 0).val < 1 := (k 0).isLt
  refine e.trans ?_
  show 0 + 1 * (k 0).val = 0
  omega

theorem prv_zero (c : Dev nD) : prv 0 c = c := by revert c; decide

/-- Storing the own block into slot 0 makes the slot hold what the full buffer holds there. -/
theorem own_slot (c : Dev nD) (f : (cc0_scratch1 : Ref sig .tc).ty.Contents (Elt F)) (i : S8x48x512.Idx) (hi : i ∈ (slotM 0).view.set) :
    ((gM : Memref sig .tc .vmem S8x48x512 .bf16).access rS0 : View sig .tc _ _ _).write (Elt F) f (k0_pay12 (cval m c)) Finset.univ i
      = commVal m c i := by
  rw [slot_set] at hi
  have h0 : (i 0).val = 0 := (Finset.mem_filter.mp hi).2
  have he : i = ((gM : Memref sig .tc .vmem S8x48x512 .bf16).access rS0 : View sig .tc _ _ _).emb
      (ix3 (0 : Fin 1) (⟨(i 1).val, (i 1).isLt⟩ : Fin 48) (⟨(i 2).val, (i 2).isLt⟩ : Fin 512)) := by
    funext a
    apply Fin.ext
    refine Eq.trans ?_ (Rect.emb_apply _ _ _).symm
    match a with
    | ⟨0, _⟩ => show (i 0).val = 0 + 1 * 0; omega
    | ⟨1, _⟩ => show (i 1).val = 0 + 1 * (i 1).val; omega
    | ⟨2, _⟩ => show (i 2).val = 0 + 1 * (i 2).val; omega
  conv_lhs => rw [he]
  refine (View.write_emb_of_mem _ _ (Finset.mem_univ _)).trans ?_
  have hp : k0_pay12 (cval m c) (ix3 (0 : Fin 1) (⟨(i 1).val, (i 1).isLt⟩ : Fin 48) (⟨(i 2).val, (i 2).isLt⟩ : Fin 512))
      = cval m c (ix2 (⟨(i 1).val, (i 1).isLt⟩ : Fin 48) (⟨(i 2).val, (i 2).isLt⟩ : Fin 512)) :=
    shapeCast_ab_1ab_apply (cval m c) shapeCasts_S48x512_S1x48x512 0 _ _
  refine hp.trans ?_
  unfold commVal
  have hd : prv (⟨(i 0).val, (i 0).isLt⟩ : Fin 8) c = c := by
    have : (⟨(i 0).val, (i 0).isLt⟩ : Fin 8) = 0 := Fin.ext h0
    rw [this]; exact prv_zero c
  rw [hd]

/-! ## The device's own block -/

/-- A buffer held whole is its eight equal shares. -/
theorem shares_eq (ℓ : Loc nD τ sig) (f : Buf (Elt F) ℓ) :
    (ℓ ↦{fullShare} f : sProp 𝕄) = bigSep (Finset.univ : Finset (Fin (2 ^ 3))) fun j => (ℓ ↦[Finset.univ]{leaf 3 fullShare j} f : sProp 𝕄) :=
  pointsTo_leaves Finset.univ f 3 fullShare
theorem fin8_list (Φ : Fin (2 ^ 3) → sProp 𝕄) : bigSep (Finset.univ : Finset (Fin (2 ^ 3))) Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [0, 1, 2, 3, 4, 5, 6, 7] (by decide) (by decide) Φ
theorem blkPts_eq (c : Dev nD) (j : Fin 8) :
    blkPts m c j = ((c : Thread nD τ).loc cc0_scratch0 ↦[Finset.univ]{leaf 3 fullShare j} cval m c : sProp 𝕄) := by
  have h : blkPts m c j = ((c : Thread nD τ).loc cc0_scratch0 ↦[(View.whole cc0_scratch0 : View sig .tc _ _ _).set]{leaf 3 fullShare j} cval m c : sProp 𝕄) := rfl
  rw [h, View.set_whole]

/-- The block, as its eight shares. -/
theorem blk_shares (c : Dev nD) : ((c : Thread nD τ).loc cc0_scratch0 ↦{fullShare} cval m c : sProp 𝕄)
    = iprop(blkPts m c 0 ∗ blkPts m c 1 ∗ blkPts m c 2 ∗ blkPts m c 3 ∗ blkPts m c 4 ∗ blkPts m c 5 ∗ blkPts m c 6 ∗ blkPts m c 7) := by
  simp only [blkPts_eq]
  generalize cval m c = f
  rw [shares_eq, fin8_list]

/-- Storing twelve rows from row `n` on: those rows are the stored ones, the others stay. -/
theorem row_write (n : ℕ) (inb : ∀ a, (![n, 0] : Fin 2 → Nat) a + S12x512.size a ≤ S48x512.size a)
    (f : (cc0_scratch0 : Ref sig .tc).ty.Contents (Elt F)) (w : FVec F S12x512 .bf16) (i : S48x512.Idx) :
    ((cM : Memref sig .tc .vmem S48x512 .bf16).access (Rect.unit (s := S48x512) ![n, 0] S12x512.size inb) : View sig .tc _ _ _).write (Elt F) f w Finset.univ i
      = if h : n ≤ (i 0).val ∧ (i 0).val < n + 12 then w (ix2 (⟨(i 0).val - n, by omega⟩ : Fin 12) (⟨(i 1).val, idx2_lt1 i⟩ : Fin 512)) else f i := by
  split
  · rename_i h
    have he : i = ((cM : Memref sig .tc .vmem S48x512 .bf16).access (Rect.unit (s := S48x512) ![n, 0] S12x512.size inb) : View sig .tc _ _ _).emb
        (ix2 (⟨(i 0).val - n, by omega⟩ : Fin 12) (⟨(i 1).val, idx2_lt1 i⟩ : Fin 512)) := by
      funext a
      apply Fin.ext
      refine Eq.trans ?_ (Rect.emb_apply _ _ _).symm
      match a with
      | ⟨0, _⟩ => show (i 0).val = n + 1 * ((i 0).val - n); omega
      | ⟨1, _⟩ => show (i 1).val = 0 + 1 * (i 1).val; omega
    conv_lhs => rw [he]
    exact View.write_emb_of_mem _ _ (Finset.mem_univ _)
  · rename_i h
    refine View.write_of_not_mem _ _ _ fun hm => h ?_
    obtain ⟨k, -, rfl⟩ := Finset.mem_map.mp hm
    have e : ((((cM : Memref sig .tc .vmem S48x512 .bf16).access (Rect.unit (s := S48x512) ![n, 0] S12x512.size inb) : View sig .tc _ _ _).emb k : S48x512.Idx) 0).val
        = n + 1 * (k 0).val := Rect.emb_apply _ _ _
    have hk : (k 0).val < 12 := (k 0).isLt
    rw [e]; omega

/-- The four stores build the block, whatever the buffer held. -/
theorem block_built (c : Dev nD) (f : (cc0_scratch0 : Ref sig .tc).ty.Contents (Elt F)) :
    ((cM : Memref sig .tc .vmem S48x512 .bf16).access (Rect.unit (s := S48x512) ![36, 0] S12x512.size inb_S48x512_S12x512_36_0) : View sig .tc _ _ _).write (Elt F)
      (((cM : Memref sig .tc .vmem S48x512 .bf16).access (Rect.unit (s := S48x512) ![24, 0] S12x512.size inb_S48x512_S12x512_24_0) : View sig .tc _ _ _).write (Elt F)
        (((cM : Memref sig .tc .vmem S48x512 .bf16).access (Rect.unit (s := S48x512) ![12, 0] S12x512.size inb_S48x512_S12x512_12_0) : View sig .tc _ _ _).write (Elt F)
          (((cM : Memref sig .tc .vmem S48x512 .bf16).access (Rect.unit (s := S48x512) ![0, 0] S12x512.size inb_S48x512_S12x512_0_0) : View sig .tc _ _ _).write (Elt F)
            f (k0_pay7 (gathered0 m c) (wSl m c 0)) Finset.univ)
          (k0_pay8 (gathered m c) (wSl m c 1)) Finset.univ)
        (k0_pay9 (gathered m c) (wSl m c 2)) Finset.univ)
      (k0_pay11 (k0_pay10 (gathered m c) (wSl m c 3))) Finset.univ = cval m c := by
  funext (i : S48x512.Idx)
  have hlt : (i 0).val < 48 := idx2_lt0 i
  have key (e : Fin 4) (n : ℕ) (hn : n = 12 * e.val) (hi : n ≤ (i 0).val ∧ (i 0).val < n + 12) :
      rowBlk m c e (ix2 (⟨(i 0).val - n, by omega⟩ : Fin 12) (⟨(i 1).val, idx2_lt1 i⟩ : Fin 512)) = cval m c i := by
    unfold cval
    have h1 : (⟨(i 0).val / 12, by omega⟩ : Fin 4) = e := Fin.ext (by show (i 0).val / 12 = e.val; omega)
    have h2 : (⟨(i 0).val - n, by omega⟩ : Fin 12) = ⟨(i 0).val % 12, Nat.mod_lt _ Nat.succ_pos'⟩ := Fin.ext (by show (i 0).val - n = (i 0).val % 12; omega)
    rw [h1, h2]
  rw [row_write]
  split
  · rename_i h; exact key 3 36 rfl h
  rw [row_write]
  split
  · rename_i h; exact key 2 24 rfl h
  rw [row_write]
  split
  · rename_i h; exact key 1 12 rfl h
  rw [row_write]
  split
  · rename_i h; exact key 0 0 rfl h
  omega

/-! ## Whole loads and stores -/

theorem hz : (![0, 0] : Fin 2 → Nat) = fun _ => 0 := funext fun a => by fin_cases a <;> rfl
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz _ f
theorem read_i (f : (cc0_stg1_0 : Ref sig .tc).ty.Contents (Elt F)) :
    (iM : Memref sig .tc .vmem S512x1 .i32).view.readAt (Elt F) (Rect.unit (s := S512x1) ![0, 0] S512x1.size inb_S512x1_S512x1_0_0).toLoadRect f = f :=
  Memref.readAt_unit_zero (Elt F) cc0_stg1_0 hz _ f
theorem read_c (f : (cc0_scratch0 : Ref sig .tc).ty.Contents (Elt F)) :
    (cM : Memref sig .tc .vmem S48x512 .bf16).view.readAt (Elt F) (Rect.unit (s := S48x512) ![0, 0] S48x512.size inb_S48x512_S48x512_0_0).toLoadRect f = f :=
  Memref.readAt_unit_zero (Elt F) cc0_scratch0 hz _ f
theorem write_out (f w : (cc0_stg3_0 : Ref sig .tc).ty.Contents (Elt F)) :
    ((oM : Memref sig .tc .vmem S512x512 .f32).access (Rect.unit (s := S512x512) ![0, 0] S512x512.size inb_S512x512_S512x512_0_0) : View sig .tc _ _ _).write (Elt F) f w
      Finset.univ = w :=
  Memref.write_access_unit_zero_univ (Elt F) cc0_stg3_0 hz _ f w

end Cert.KernelIdeal.Exch

end
-- ==== Proof.KernelIdealData.lean ====
/-
# The pipeline's data for the kernel

What a device starts from, what the four windows hold, what it ends with; and the closing of its cells.
-/
module

public import proofs.«01_k».proof.Proof.KernelIdealMem

@[expose] public section

set_option maxRecDepth 16384

noncomputable section

namespace Cert.KernelIdeal.Exch

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-! ## What a device starts from and ends with -/

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A device's positions at its cells: nowhere yet. -/
def atStart (c : Dev nD) : sProp 𝕄 :=
  iprop(atPos ER (barCell c) 0 ∅ 0 ∗ (bigSep Finset.univ fun j : Fin 8 => atPos ER (sendCell c j) 0 ∅ 0) ∗ bigSep Finset.univ fun j : Fin 8 => atPos ER (recvCell c j) 0 ∅ 0)
/-- The tokens of the duties the device pays. -/
def payToks (c : Dev nD) : sProp 𝕄 :=
  iprop((bigSep Finset.univ fun o : Fin 8 => dutyTok ER (barCell (nxt o c)) 0 (-o)) ∗ (bigSep Finset.univ fun o : Fin 8 => dutyTok ER (sendCell c o) 0 0)
    ∗ bigSep Finset.univ fun o : Fin 8 => dutyTok ER (recvCell (nxt o c) o) 0 0)
/-- The credits it is due: seven signals and seven copies. -/
def dues (c : Dev nD) : sProp 𝕄 :=
  iprop(cred (tallyAt (barCell c) () 7) ∗ cred (tallyAt (recvCell c 1) () N) ∗ cred (tallyAt (recvCell c 2) () N) ∗ cred (tallyAt (recvCell c 3) () N)
    ∗ cred (tallyAt (recvCell c 4) () N) ∗ cred (tallyAt (recvCell c 5) () N) ∗ cred (tallyAt (recvCell c 6) () N) ∗ cred (tallyAt (recvCell c 7) () N))
def ghost (K : Dev nD × Fin 17 → ℕ) (c : Dev nD) : sProp 𝕄 := iprop(records m K ∗ atStart c ∗ payToks c)
def start (c : Dev nD) : sProp 𝕄 := iprop((∃ K, ghost m K c) ∗ dues c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m c ∗ scratch c)
def Φ₁ (c : Dev nD) : sProp 𝕄 := iprop(scratch c ∗ bigSep Finset.univ fun k : Fin 17 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => iIn m c
    | ⟨2, _⟩ => wIn m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The devices the kernel names -/

theorem dev1_eq (c : Dev nD) : (⟨k0_dev1 c, k0_dev1_lt c⟩ : Dev nD) = nxt 1 c := Fin.ext (k0_dev1_eq c)
theorem dev2_eq (c : Dev nD) : (⟨k0_dev2 c, k0_dev2_lt c⟩ : Dev nD) = nxt 2 c := Fin.ext (k0_dev2_eq c)
theorem dev3_eq (c : Dev nD) : (⟨k0_dev3 c, k0_dev3_lt c⟩ : Dev nD) = nxt 3 c := Fin.ext (k0_dev3_eq c)
theorem dev4_eq (c : Dev nD) : (⟨k0_dev4 c, k0_dev4_lt c⟩ : Dev nD) = nxt 4 c := Fin.ext (k0_dev4_eq c)
theorem dev5_eq (c : Dev nD) : (⟨k0_dev5 c, k0_dev5_lt c⟩ : Dev nD) = nxt 5 c := Fin.ext (k0_dev5_eq c)
theorem dev6_eq (c : Dev nD) : (⟨k0_dev6 c, k0_dev6_lt c⟩ : Dev nD) = nxt 6 c := Fin.ext (k0_dev6_eq c)
theorem dev7_eq (c : Dev nD) : (⟨k0_dev7 c, k0_dev7_lt c⟩ : Dev nD) = nxt 7 c := Fin.ext (k0_dev7_eq c)
theorem dev8_eq (c : Dev nD) : (⟨k0_dev8 c, k0_dev8_lt c⟩ : Dev nD) = nxt 1 c := Fin.ext (k0_dev8_eq c)
theorem dev9_eq (c : Dev nD) : (⟨k0_dev9 c, k0_dev9_lt c⟩ : Dev nD) = nxt 2 c := Fin.ext (k0_dev9_eq c)
theorem dev10_eq (c : Dev nD) : (⟨k0_dev10 c, k0_dev10_lt c⟩ : Dev nD) = nxt 3 c := Fin.ext (k0_dev10_eq c)
theorem dev11_eq (c : Dev nD) : (⟨k0_dev11 c, k0_dev11_lt c⟩ : Dev nD) = nxt 4 c := Fin.ext (k0_dev11_eq c)
theorem dev12_eq (c : Dev nD) : (⟨k0_dev12 c, k0_dev12_lt c⟩ : Dev nD) = nxt 5 c := Fin.ext (k0_dev12_eq c)
theorem dev13_eq (c : Dev nD) : (⟨k0_dev13 c, k0_dev13_lt c⟩ : Dev nD) = nxt 6 c := Fin.ext (k0_dev13_eq c)
theorem dev14_eq (c : Dev nD) : (⟨k0_dev14 c, k0_dev14_lt c⟩ : Dev nD) = nxt 7 c := Fin.ext (k0_dev14_eq c)

/-! ## Closing the cells -/

/-- The round each cell ends at: 1, or 0 for the two cells never used. -/
def endRd (k : Fin 17) : ℕ := if k = sIx 0 ∨ k = vIx 0 then 0 else 1
theorem endRd_none (c : Dev nD) (k : Fin 17) : ∀ r, endRd k ≤ r → (sched (F := F) m).duties (kcell (c, k)) r = ∅ := by
  intro r hr
  unfold endRd at hr
  split at hr
  · rename_i h
    rcases h with rfl | rfl
    · rw [kcell_send]; exact duties_send0 m c r hr
    · rw [kcell_recv]; exact duties_recv0 m c r hr
  · exact duties_later m _ r hr

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all (K : Dev nD × Fin 17 → ℕ) (c : Dev nD) :
    iprop(records m K ∗ bigSep Finset.univ fun k : Fin 17 => atPos ER (kcell (c, k)) (endRd k) ∅ 0)
      ⊢ iprop(|={Set.univ}=> (bigSep Finset.univ fun k : Fin 17 => semVal (kcell (c, k)) 0 : sProp 𝕄)) :=
  (with_records fun k _ => close_cell m K c k (endRd k) (endRd_none m c k)).trans (bigSep_fupd _ _)

/-- The positions at the end, cell by cell. -/
theorem atEnd_eq (c : Dev nD) : (bigSep Finset.univ fun k : Fin 17 => (atPos ER (kcell (c, k)) (endRd k) ∅ 0 : sProp 𝕄))
    = iprop(atPos ER (barCell c) 1 ∅ 0
      ∗ atPos ER (sendCell c 0) 0 ∅ 0 ∗ atPos ER (sendCell c 1) 1 ∅ 0 ∗ atPos ER (sendCell c 2) 1 ∅ 0 ∗ atPos ER (sendCell c 3) 1 ∅ 0
      ∗ atPos ER (sendCell c 4) 1 ∅ 0 ∗ atPos ER (sendCell c 5) 1 ∅ 0 ∗ atPos ER (sendCell c 6) 1 ∅ 0 ∗ atPos ER (sendCell c 7) 1 ∅ 0
      ∗ atPos ER (recvCell c 0) 0 ∅ 0 ∗ atPos ER (recvCell c 1) 1 ∅ 0 ∗ atPos ER (recvCell c 2) 1 ∅ 0 ∗ atPos ER (recvCell c 3) 1 ∅ 0
      ∗ atPos ER (recvCell c 4) 1 ∅ 0 ∗ atPos ER (recvCell c 5) 1 ∅ 0 ∗ atPos ER (recvCell c 6) 1 ∅ 0 ∗ atPos ER (recvCell c 7) 1 ∅ 0) := by
  rw [bigSep_univ_eq_bigSepL [0, 1, 2, 3, 4, 5, 6, 7, 8, 9, 10, 11, 12, 13, 14, 15, 16] (by decide) (by decide)]
  rfl

end Cert.KernelIdeal.Exch

end
-- ==== Proof.KernelIdealBody.lean ====
/-
# The body

The kernel run step by step on one device, from what the launch gives it to what it leaves.
-/
module

public import proofs.«01_k».proof.Proof.KernelIdealData

@[expose] public section

set_option maxRecDepth 16384

noncomputable section

namespace Cert.KernelIdeal.Exch

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 17 → ℕ) (c : Dev nD) : sProp 𝕄 :=
  iprop((ghost m K c ∗ dues c ∗ levAts L lv ∗ scratch c)
    ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ c ∗ (dats m 0 c).owesAt () t0_0.succ ∗ stg c cc0_stg0_0 (xIn m c) ∗ stg c cc0_stg1_0 (iIn m c) ∗ stg c cc0_stg2_0 (wIn m c) ∗ stg c cc0_stg3_0 (outAt m c))

set_option maxHeartbeats 1600000 in
/-- The body, one rule per effect in program order. -/
theorem sound_body (K : Dev nD × Fin 17 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part12_eq_skeleton]; unfold k0_part12_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId,
    dev1_eq, dev2_eq, dev3_eq, dev4_eq, dev5_eq, dev6_eq, dev7_eq]
  unfold bodyPre ghost atStart payToks dues scratch
  simp only [fin8]
  iintro ⟨⟨⟨⟨#HR, ⟨HaB, ⟨HaS0, HaS1, HaS2, HaS3, HaS4, HaS5, HaS6, HaS7⟩, HaV0, HaV1, HaV2, HaV3, HaV4, HaV5, HaV6, HaV7⟩, ⟨⟨HtB0, HtB1, HtB2, HtB3, HtB4, HtB5, HtB6, HtB7⟩, ⟨HtS0, HtS1, HtS2, HtS3, HtS4, HtS5, HtS6, HtS7⟩, HtV0, HtV1, HtV2, HtV3, HtV4, HtV5, HtV6, HtV7⟩⟩,
      ⟨HcB, HcV1, HcV2, HcV3, HcV4, HcV5, HcV6, HcV7⟩, #Hlev, ⟨%fc, Hc⟩, ⟨%fg, Hg⟩⟩, Ho, ⟨%d0, %g0, %hg0, Hx⟩, ⟨%d1, %g1, %hg1, Hi⟩, ⟨%d2, %g2, %hg2, Hw⟩, ⟨%d3, %g3, %hg3, Hout⟩⟩, Hk⟩
  have hx0 : g0 = xIn m c := by rw [hg0]; unfold Dat.before; rw [if_pos (fetch0_0 t0_0)]; rfl
  subst hx0
  have hx1 : g1 = iIn m c := by rw [hg1]; unfold Dat.before; rw [if_pos (fetch0_1 t0_0)]; rfl
  subst hx1
  have hx2 : g2 = wIn m c := by rw [hg2]; unfold Dat.before; rw [if_pos (fetch0_2 t0_0)]; rfl
  subst hx2
  unfold Dat.owesAt Pipeline.owesWithin
  icases Ho with ⟨%W, %hW, HO⟩
  rw [show (dats m 0 c).owed t0_0.castSucc = oB c 7 from rfl]
  ihave HO := (show iprop(owes (c : Thread nD τ) (oB c 7) W) ⊢ owesE c (oB c 7) from by unfold owesE; iintro H; iexists W; iexact H) $$ HO
  -- the landing buffer, slot by slot
  ihave Hs := (Entails.of_eq (slots_split (F := F) c fg)) $$ Hg
  icases Hs with ⟨Hg0, Hg1, Hg2, Hg3, Hg4, Hg5, Hg6, Hg7⟩
  -- the signals, each handing over the slot that peer's copy lands in
  iapply (wp_sig m K c _ 1 rfl (by decide) (oB c 6) rfl) $$ [HO HtB1 Hg7]
  · isplitr; · iexact HR
    isplitl [HO]; · iexact HO
    isplitl [HtB1]; · iexact HtB1
    unfold slotAny; iexists fg; iexact Hg7
  iintro HO
  iapply (wp_sig m K c _ 2 rfl (by decide) (oB c 5) rfl) $$ [HO HtB2 Hg6]
  · isplitr; · iexact HR
    isplitl [HO]; · iexact HO
    isplitl [HtB2]; · iexact HtB2
    unfold slotAny; iexists fg; iexact Hg6
  iintro HO
  iapply (wp_sig m K c _ 3 rfl (by decide) (oB c 4) rfl) $$ [HO HtB3 Hg5]
  · isplitr; · iexact HR
    isplitl [HO]; · iexact HO
    isplitl [HtB3]; · iexact HtB3
    unfold slotAny; iexists fg; iexact Hg5
  iintro HO
  iapply (wp_sig m K c _ 4 rfl (by decide) (oB c 3) rfl) $$ [HO HtB4 Hg4]
  · isplitr; · iexact HR
    isplitl [HO]; · iexact HO
    isplitl [HtB4]; · iexact HtB4
    unfold slotAny; iexists fg; iexact Hg4
  iintro HO
  iapply (wp_sig m K c _ 5 rfl (by decide) (oB c 2) rfl) $$ [HO HtB5 Hg3]
  · isplitr; · iexact HR
    isplitl [HO]; · iexact HO
    isplitl [HtB5]; · iexact HtB5
    unfold slotAny; iexists fg; iexact Hg3
  iintro HO
  iapply (wp_sig m K c _ 6 rfl (by decide) (oB c 1) rfl) $$ [HO HtB6 Hg2]
  · isplitr; · iexact HR
    isplitl [HO]; · iexact HO
    isplitl [HtB6]; · iexact HtB6
    unfold slotAny; iexists fg; iexact Hg2
  iintro HO
  iapply (wp_sig m K c _ 7 rfl (by decide) (oB c 0) rfl) $$ [HO HtB7 Hg1]
  · isplitr; · iexact HR
    isplitl [HO]; · iexact HO
    isplitl [HtB7]; · iexact HtB7
    unfold slotAny; iexists fg; iexact Hg1
  iintro HO
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  rw [show k0_pay6 (k0_pay1 (F := F) (iIn m c)) (k0_pay2 (iIn m c)) (iota .tc S512x48 32 [1] iota_S512x48_d1_w32) (Scalar.muli (Scalar.remsi (Scalar.divsi (Dev.word c) 1#32) 8#32) 4#32) 12#32
      k0_pay3 k0_pay4 (Scalar.extui (Scalar.cmpi .sgt 12#32 0#32)) (Scalar.cmpi .slt 12#32 0#32) (xIn m c) = gathered0 m c from rfl,
    show k0_pay5 (k0_pay1 (F := F) (iIn m c)) (k0_pay2 (iIn m c)) (iota .tc S512x48 32 [1] iota_S512x48_d1_w32) (Scalar.muli (Scalar.remsi (Scalar.divsi (Dev.word c) 1#32) 8#32) 4#32) 12#32
      k0_pay3 k0_pay4 (Scalar.extui (Scalar.cmpi .sgt 12#32 0#32)) (Scalar.cmpi .slt 12#32 0#32) (xIn m c) = gathered m c from rfl]
  -- the barrier wait: the peers' slots for this device's copies
  iapply (wp_wait_bar m K c) $$ [HcB HO HaB]
  · isplitr; · iexact HR
    isplitr; · iexact Hlev
    isplitl [HcB]; · iexact HcB
    isplitl [HO]; · iexact HO
    iexact HaB
  iintro ⟨HO, HaB, Hn1, Hn2, Hn3, Hn4, Hn5, Hn6, Hn7⟩
  -- the device's own block, expert by expert
  iapply (wp_load 𝒱₀ (c : Thread nD τ) none Set.univ (m := wM) (Finset.subset_univ _)) $$ Hw; iintro Hw
  rw [show wM.view.readAt (Elt F) (Rect.unit (s := S4x256x512) ![0, 0, 0] S1x256x512.size inb_S4x256x512_S1x256x512_0_0_0).toLoadRect (wIn m c) = wSl m c 0 from rfl]
  iapply (wp_load 𝒱₀ (c : Thread nD τ) none Set.univ (m := cM) (Finset.subset_univ _)) $$ Hc; iintro Hc
  iapply (wp_store 𝒱₀ (c : Thread nD τ) none Set.univ (m := cM) (r := Rect.unit (s := S48x512) ![0, 0] S12x512.size inb_S48x512_S12x512_0_0) (Mk := Finset.univ) (Finset.subset_univ _)) $$ Hc; iintro Hc
  iapply (wp_load 𝒱₀ (c : Thread nD τ) none Set.univ (m := wM) (Finset.subset_univ _)) $$ Hw; iintro Hw
  rw [show wM.view.readAt (Elt F) (Rect.unit (s := S4x256x512) ![1, 0, 0] S1x256x512.size inb_S4x256x512_S1x256x512_1_0_0).toLoadRect (wIn m c) = wSl m c 1 from rfl]
  iapply (wp_load 𝒱₀ (c : Thread nD τ) none Set.univ (m := cM) (Finset.subset_univ _)) $$ Hc; iintro Hc
  iapply (wp_store 𝒱₀ (c : Thread nD τ) none Set.univ (m := cM) (r := Rect.unit (s := S48x512) ![12, 0] S12x512.size inb_S48x512_S12x512_12_0) (Mk := Finset.univ) (Finset.subset_univ _)) $$ Hc; iintro Hc
  iapply (wp_load 𝒱₀ (c : Thread nD τ) none Set.univ (m := wM) (Finset.subset_univ _)) $$ Hw; iintro Hw
  rw [show wM.view.readAt (Elt F) (Rect.unit (s := S4x256x512) ![2, 0, 0] S1x256x512.size inb_S4x256x512_S1x256x512_2_0_0).toLoadRect (wIn m c) = wSl m c 2 from rfl]
  iapply (wp_load 𝒱₀ (c : Thread nD τ) none Set.univ (m := cM) (Finset.subset_univ _)) $$ Hc; iintro Hc
  iapply (wp_store 𝒱₀ (c : Thread nD τ) none Set.univ (m := cM) (r := Rect.unit (s := S48x512) ![24, 0] S12x512.size inb_S48x512_S12x512_24_0) (Mk := Finset.univ) (Finset.subset_univ _)) $$ Hc; iintro Hc
  iapply (wp_load 𝒱₀ (c : Thread nD τ) none Set.univ (m := wM) (Finset.subset_univ _)) $$ Hw; iintro Hw
  rw [show wM.view.readAt (Elt F) (Rect.unit (s := S4x256x512) ![3, 0, 0] S1x256x512.size inb_S4x256x512_S1x256x512_3_0_0).toLoadRect (wIn m c) = wSl m c 3 from rfl]
  iapply (wp_load 𝒱₀ (c : Thread nD τ) none Set.univ (m := cM) (Finset.subset_univ _)) $$ Hc; iintro Hc
  iapply (wp_store 𝒱₀ (c : Thread nD τ) none Set.univ (m := cM) (r := Rect.unit (s := S48x512) ![36, 0] S12x512.size inb_S48x512_S12x512_36_0) (Mk := Finset.univ) (Finset.subset_univ _)) $$ Hc; iintro Hc
  ihave Hc := (Entails.of_eq (congrArg (fun f => ((c : Thread nD τ).loc cc0_scratch0 ↦{fullShare} f : sProp 𝕄)) (block_built m c fc))) $$ Hc
  iapply (wp_load 𝒱₀ (c : Thread nD τ) none Set.univ (m := cM) (Finset.subset_univ _)) $$ Hc; iintro Hc
  rw [read_c]
  unfold slotPts
  iapply (wp_load 𝒱₀ (c : Thread nD τ) none Set.univ (m := gM) load_s0) $$ Hg0; iintro Hg0
  iapply (wp_store 𝒱₀ (c : Thread nD τ) none Set.univ (m := gM) (r := rS0) (Mk := Finset.univ) store_s0) $$ Hg0; iintro Hg0
  ihave Hg0 := (Entails.of_eq (pointsTo_congr fun i hi => own_slot m c fg i hi)) $$ Hg0
  ihave Hb := (Entails.of_eq (blk_shares m c)) $$ Hc
  icases Hb with ⟨Hb0, Hb1, Hb2, Hb3, Hb4, Hb5, Hb6, Hb7⟩
  -- the seven copies
  iapply (wp_put m K c _ 1 (dev8_eq c) (by decide) rfl rfl rfl (oR c 6) rfl) $$ [HO HtS1 HtV1 Hb1 Hn1]
  · isplitr; · iexact HR
    isplitl [HO]; · iexact HO
    isplitl [HtS1]; · iexact HtS1
    isplitl [HtV1]; · iexact HtV1
    isplitl [Hb1] <;> iassumption
  iintro ⟨HcS1, HO⟩
  iapply (wp_put m K c _ 2 (dev9_eq c) (by decide) rfl rfl rfl (oR c 5) rfl) $$ [HO HtS2 HtV2 Hb2 Hn2]
  · isplitr; · iexact HR
    isplitl [HO]; · iexact HO
    isplitl [HtS2]; · iexact HtS2
    isplitl [HtV2]; · iexact HtV2
    isplitl [Hb2] <;> iassumption
  iintro ⟨HcS2, HO⟩
  iapply (wp_put m K c _ 3 (dev10_eq c) (by decide) rfl rfl rfl (oR c 4) rfl) $$ [HO HtS3 HtV3 Hb3 Hn3]
  · isplitr; · iexact HR
    isplitl [HO]; · iexact HO
    isplitl [HtS3]; · iexact HtS3
    isplitl [HtV3]; · iexact HtV3
    isplitl [Hb3] <;> iassumption
  iintro ⟨HcS3, HO⟩
  iapply (wp_put m K c _ 4 (dev11_eq c) (by decide) rfl rfl rfl (oR c 3) rfl) $$ [HO HtS4 HtV4 Hb4 Hn4]
  · isplitr; · iexact HR
    isplitl [HO]; · iexact HO
    isplitl [HtS4]; · iexact HtS4
    isplitl [HtV4]; · iexact HtV4
    isplitl [Hb4] <;> iassumption
  iintro ⟨HcS4, HO⟩
  iapply (wp_put m K c _ 5 (dev12_eq c) (by decide) rfl rfl rfl (oR c 2) rfl) $$ [HO HtS5 HtV5 Hb5 Hn5]
  · isplitr; · iexact HR
    isplitl [HO]; · iexact HO
    isplitl [HtS5]; · iexact HtS5
    isplitl [HtV5]; · iexact HtV5
    isplitl [Hb5] <;> iassumption
  iintro ⟨HcS5, HO⟩
  iapply (wp_put m K c _ 6 (dev13_eq c) (by decide) rfl rfl rfl (oR c 1) rfl) $$ [HO HtS6 HtV6 Hb6 Hn6]
  · isplitr; · iexact HR
    isplitl [HO]; · iexact HO
    isplitl [HtS6]; · iexact HtS6
    isplitl [HtV6]; · iexact HtV6
    isplitl [Hb6] <;> iassumption
  iintro ⟨HcS6, HO⟩
  iapply (wp_put m K c _ 7 (dev14_eq c) (by decide) rfl rfl rfl (oR c 0) rfl) $$ [HO HtS7 HtV7 Hb7 Hn7]
  · isplitr; · iexact HR
    isplitl [HO]; · iexact HO
    isplitl [HtS7]; · iexact HtS7
    isplitl [HtV7]; · iexact HtV7
    isplitl [Hb7] <;> iassumption
  iintro ⟨HcS7, HO⟩
  rw [show oR c 0 = 0 from rfl]
  -- the copies that arrive, and the two halves read
  iapply (wp_get m K c 1 (by decide) rfl rfl) $$ [HO HcV1 HaV1]
  · isplitr; · iexact HR
    isplitl [HO]; · iexact HO
    isplitl [HcV1] <;> iassumption
  iintro ⟨HO, HaV1, Hg1⟩
  iapply (wp_get m K c 2 (by decide) rfl rfl) $$ [HO HcV2 HaV2]
  · isplitr; · iexact HR
    isplitl [HO]; · iexact HO
    isplitl [HcV2] <;> iassumption
  iintro ⟨HO, HaV2, Hg2⟩
  iapply (wp_get m K c 3 (by decide) rfl rfl) $$ [HO HcV3 HaV3]
  · isplitr; · iexact HR
    isplitl [HO]; · iexact HO
    isplitl [HcV3] <;> iassumption
  iintro ⟨HO, HaV3, Hg3⟩
  ihave Hlo := (Entails.of_eq (slots_lo (F := F) c (commVal m c)).symm) $$ [Hg0 Hg1 Hg2 Hg3]
  · unfold slotPts
    isplitl [Hg0]; · iexact Hg0
    isplitl [Hg1]; · iexact Hg1
    isplitl [Hg2] <;> iassumption
  iapply (wp_load 𝒱₀ (c : Thread nD τ) none Set.univ (m := gM) load_lo) $$ Hlo; iintro Hlo
  iapply (wp_get m K c 4 (by decide) rfl rfl) $$ [HO HcV4 HaV4]
  · isplitr; · iexact HR
    isplitl [HO]; · iexact HO
    isplitl [HcV4] <;> iassumption
  iintro ⟨HO, HaV4, Hg4⟩
  iapply (wp_get m K c 5 (by decide) rfl rfl) $$ [HO HcV5 HaV5]
  · isplitr; · iexact HR
    isplitl [HO]; · iexact HO
    isplitl [HcV5] <;> iassumption
  iintro ⟨HO, HaV5, Hg5⟩
  iapply (wp_get m K c 6 (by decide) rfl rfl) $$ [HO HcV6 HaV6]
  · isplitr; · iexact HR
    isplitl [HO]; · iexact HO
    isplitl [HcV6] <;> iassumption
  iintro ⟨HO, HaV6, Hg6⟩
  iapply (wp_get m K c 7 (by decide) rfl rfl) $$ [HO HcV7 HaV7]
  · isplitr; · iexact HR
    isplitl [HO]; · iexact HO
    isplitl [HcV7] <;> iassumption
  iintro ⟨HO, HaV7, Hg7⟩
  ihave Hhi := (Entails.of_eq (slots_hi (F := F) c (commVal m c)).symm) $$ [Hg4 Hg5 Hg6 Hg7]
  · unfold slotPts
    isplitl [Hg4]; · iexact Hg4
    isplitl [Hg5]; · iexact Hg5
    isplitl [Hg6] <;> iassumption
  iapply (wp_load 𝒱₀ (c : Thread nD τ) none Set.univ (m := gM) load_hi) $$ Hhi; iintro Hhi
  iapply (wp_load 𝒱₀ (c : Thread nD τ) none Set.univ (m := oM) (Finset.subset_univ _)) $$ Hout; iintro Hout
  iapply (wp_store 𝒱₀ (c : Thread nD τ) none Set.univ (m := oM) (r := Rect.unit (s := S512x512) ![0, 0] S512x512.size inb_S512x512_S512x512_0_0) (Mk := Finset.univ) (Finset.subset_univ _)) $$ Hout; iintro Hout
  rw [write_out]
  -- the own copies have been read
  iapply (wp_sent m K c 1 (by decide) rfl) $$ [HO HcS1 HaS1]
  · isplitr; · iexact HR
    isplitl [HO]; · iexact HO
    isplitl [HcS1] <;> iassumption
  iintro ⟨HO, HaS1, Hb1⟩
  iapply (wp_sent m K c 2 (by decide) rfl) $$ [HO HcS2 HaS2]
  · isplitr; · iexact HR
    isplitl [HO]; · iexact HO
    isplitl [HcS2] <;> iassumption
  iintro ⟨HO, HaS2, Hb2⟩
  iapply (wp_sent m K c 3 (by decide) rfl) $$ [HO HcS3 HaS3]
  · isplitr; · iexact HR
    isplitl [HO]; · iexact HO
    isplitl [HcS3] <;> iassumption
  iintro ⟨HO, HaS3, Hb3⟩
  iapply (wp_sent m K c 4 (by decide) rfl) $$ [HO HcS4 HaS4]
  · isplitr; · iexact HR
    isplitl [HO]; · iexact HO
    isplitl [HcS4] <;> iassumption
  iintro ⟨HO, HaS4, Hb4⟩
  iapply (wp_sent m K c 5 (by decide) rfl) $$ [HO HcS5 HaS5]
  · isplitr; · iexact HR
    isplitl [HO]; · iexact HO
    isplitl [HcS5] <;> iassumption
  iintro ⟨HO, HaS5, Hb5⟩
  iapply (wp_sent m K c 6 (by decide) rfl) $$ [HO HcS6 HaS6]
  · isplitr; · iexact HR
    isplitl [HO]; · iexact HO
    isplitl [HcS6] <;> iassumption
  iintro ⟨HO, HaS6, Hb6⟩
  iapply (wp_sent m K c 7 (by decide) rfl) $$ [HO HcS7 HaS7]
  · isplitr; · iexact HR
    isplitl [HO]; · iexact HO
    isplitl [HcS7] <;> iassumption
  iintro ⟨HO, HaS7, Hb7⟩
  -- every cell closes
  ihave Hat := (Entails.of_eq (atEnd_eq (F := F) c).symm) $$ [HaB HaS0 HaS1 HaS2 HaS3 HaS4 HaS5 HaS6 HaS7 HaV0 HaV1 HaV2 HaV3 HaV4 HaV5 HaV6 HaV7]
  · isplitl [HaB]; · iexact HaB
    isplitl [HaS0]; · iexact HaS0
    isplitl [HaS1]; · iexact HaS1
    isplitl [HaS2]; · iexact HaS2
    isplitl [HaS3]; · iexact HaS3
    isplitl [HaS4]; · iexact HaS4
    isplitl [HaS5]; · iexact HaS5
    isplitl [HaS6]; · iexact HaS6
    isplitl [HaS7]; · iexact HaS7
    isplitl [HaV0]; · iexact HaV0
    isplitl [HaV1]; · iexact HaV1
    isplitl [HaV2]; · iexact HaV2
    isplitl [HaV3]; · iexact HaV3
    isplitl [HaV4]; · iexact HaV4
    isplitl [HaV5]; · iexact HaV5
    isplitl [HaV6]; · iexact HaV6
    iexact HaV7
  imod (close_all m K c) $$ [Hat] with Hz
  · isplitr; · iexact HR
    iexact Hat
  rw [wp_ret]; imodintro
  iapply Hk
  unfold bodyPost Φ₁ scratch Dat.owesAt Pipeline.owesWithin
  rw [show (dats m 0 c).owed t0_0.succ = 0 from rfl]
  isplitl [Hb0 Hb1 Hb2 Hb3 Hb4 Hb5 Hb6 Hb7 Hlo Hhi Hz]
  · isplitl [Hb0 Hb1 Hb2 Hb3 Hb4 Hb5 Hb6 Hb7 Hlo Hhi]
    · isplitl [Hb0 Hb1 Hb2 Hb3 Hb4 Hb5 Hb6 Hb7]
      · iexists (cval m c); rw [blk_shares]
        isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        iexact Hb7
      iexists (commVal m c)
      rw [slots_split]
      ihave Hlo := (Entails.of_eq (slots_lo (F := F) c (commVal m c))) $$ Hlo
      ihave Hhi := (Entails.of_eq (slots_hi (F := F) c (commVal m c))) $$ Hhi
      icases Hlo with ⟨H0, H1, H2, H3⟩
      isplitl [H0]; · iexact H0
      isplitl [H1]; · iexact H1
      isplitl [H2]; · iexact H2
      isplitl [H3] <;> iassumption
    iexact Hz
  isplitl [HO]
  · unfold owesE
    icases HO with ⟨%W', HO⟩
    iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr
  swap; · iexact Hout
  ipureintro; rfl

end Cert.KernelIdeal.Exch

end
-- ==== Proof.KernelIdealLaunch.lean ====
/-
# The launch

The eight devices' kernels started together: the cells' invariants, the tokens dealt to the devices that pay them, the
credit each device is due; then the run of @main.
-/
module

public import proofs.«01_k».proof.Proof.KernelIdealBody
public import Idealize.ShloMosaic.Lib.Pipeline.CollectiveSegs

@[expose] public section

set_option maxRecDepth 16384

noncomputable section

namespace Cert.KernelIdeal.Exch

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The body's obligation -/

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3)
    (fun _ => bodyPost m c)
  unfold bodyPre' Φ₀ start
  iintro ⟨⟨⟨⟨%K, Hg⟩, Hd, Hl⟩, Hscr⟩, Ho, Hx⟩
  iapply (sound_body m K c fun _ => bodyPost m c)
  unfold bodyPre
  isplitr []
  · isplitl [Hg Hd Hl Hscr]
    · isplitl [Hg]; · iexact Hg
      isplitl [Hd]; · iexact Hd
      isplitl [Hl] <;> iassumption
    isplitl [Ho] <;> iassumption
  · iintro H; iexact H

/-! ## The cells and tokens at launch -/

/-- The kernel's own semaphores, the runtime's barrier apart. -/
def osem (k : Fin 16) : SemLoc sig := .dma ⟨4 + k.val, by show 4 + k.val < 20; omega⟩

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Fin 17 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def ringCells : Finset (GSem nD τ sig) := Finset.univ.map ⟨kcell, kcell_injective⟩

/-- The duties of a device's own cells: its barrier's eight names, its eight sends, its eight receives. -/
def tokSem (k : Fin 3 × Fin 8) : SemLoc sig × Fin 8 :=
  if k.1 = 0 then (.reg barS, k.2) else if k.1 = 1 then (.dma (sendS k.2), 0) else (.dma (recvS k.2), 0)
theorem tokSem_injective : Function.Injective tokSem := by decide
abbrev tokOf (ck : Dev nD × (Fin 3 × Fin 8)) : GSem nD τ sig × ℕ × Fin 8 := (((ck.1 : Thread nD τ), (tokSem ck.2).1), 0, (tokSem ck.2).2)
theorem tokOf_injective : Function.Injective (tokOf : Dev nD × (Fin 3 × Fin 8) → GSem nD τ sig × ℕ × Fin 8) := by
  rintro ⟨c, k⟩ ⟨c', k'⟩ h
  have h1 : c = c' := by have := congrArg (fun x : GSem nD τ sig × ℕ × Fin 8 => x.1.1.1) h; exact this
  have h2 : k = k' := tokSem_injective (Prod.ext (congrArg (fun x : GSem nD τ sig × ℕ × Fin 8 => x.1.2) h) (congrArg (fun x : GSem nD τ sig × ℕ × Fin 8 => x.2.2) h))
  rw [h1, h2]
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 8 => dutyTok ER (barCell c) 0 j) ∗ (bigSep Finset.univ fun j : Fin 8 => dutyTok ER (sendCell c j) 0 0)
    ∗ bigSep Finset.univ fun j : Fin 8 => dutyTok ER (recvCell c j) 0 0)

/-- What the launch deals device `c`. -/
def G (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ toks c)
/-- What the start makes of it. -/
def G' (c : Dev nD) : sProp 𝕄 := iprop(∃ K, ghost m K c)

theorem toks_list (c : Dev nD) : (bigSep Finset.univ fun k : Fin 3 × Fin 8 => (dutyTok ER (tokOf (c, k)).1 (tokOf (c, k)).2.1 (tokOf (c, k)).2.2 : sProp 𝕄)) = toks c := by
  rw [bigSep_univ_prod, bigSep_univ_eq_bigSepL [0, 1, 2] (by decide) (by decide)]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_list c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The sixteen send and receive semaphores, then the barrier: the device's seventeen cells. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0
      ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0
      ∗ semVal (kcell (c, 13)) 0 ∗ semVal (kcell (c, 14)) 0 ∗ semVal (kcell (c, 15)) 0 ∗ semVal (kcell (c, 16)) 0) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    (bigSep Finset.univ fun k : Fin 17 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_univ_eq_bigSepL [0, 1, 2, 3, 4, 5, 6, 7, 8, 9, 10, 11, 12, 13, 14, 15, 16] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  have alloc : iprop((bigSep Finset.univ fun k : Fin 17 => semVal (kcell (c, k)) 0) ∗ bigSep Finset.univ fun k : Fin 17 => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod alloc $$ [Hv Hst] with Hinv
  · isplitl [Hv] <;> iassumption
  imodintro
  isplitl [Hinv]; · iexact Hinv
  isplitl [Hat]; · iexact Hat
  iexact Htok

theorem atStart_intro (c : Dev nD) : (bigSep Finset.univ fun k : Fin 17 => (atPos ER (kcell (c, k)) 0 ∅ 0 : sProp 𝕄)) ⊢ atStart c := by
  unfold atStart
  rw [bigSep_univ_eq_bigSepL [0, 1, 2, 3, 4, 5, 6, 7, 8, 9, 10, 11, 12, 13, 14, 15, 16] (by decide) (by decide), fin8, fin8]
  have e : bigSepL [(0 : Fin 17), 1, 2, 3, 4, 5, 6, 7, 8, 9, 10, 11, 12, 13, 14, 15, 16] (fun k => (atPos ER (kcell (c, k)) 0 ∅ 0 : sProp 𝕄))
      = iprop(atPos ER (barCell c) 0 ∅ 0 ∗ atPos ER (sendCell c 0) 0 ∅ 0 ∗ atPos ER (sendCell c 1) 0 ∅ 0 ∗ atPos ER (sendCell c 2) 0 ∅ 0 ∗ atPos ER (sendCell c 3) 0 ∅ 0
        ∗ atPos ER (sendCell c 4) 0 ∅ 0 ∗ atPos ER (sendCell c 5) 0 ∅ 0 ∗ atPos ER (sendCell c 6) 0 ∅ 0 ∗ atPos ER (sendCell c 7) 0 ∅ 0
        ∗ atPos ER (recvCell c 0) 0 ∅ 0 ∗ atPos ER (recvCell c 1) 0 ∅ 0 ∗ atPos ER (recvCell c 2) 0 ∅ 0 ∗ atPos ER (recvCell c 3) 0 ∅ 0
        ∗ atPos ER (recvCell c 4) 0 ∅ 0 ∗ atPos ER (recvCell c 5) 0 ∅ 0 ∗ atPos ER (recvCell c 6) 0 ∅ 0 ∗ atPos ER (recvCell c 7) 0 ∅ 0) := rfl
  rw [e]
  iintro ⟨HB, H0, H1, H2, H3, H4, H5, H6, H7, HV⟩
  isplitl [HB]; · iexact HB
  isplitr [HV]
  · isplitl [H0]; · iexact H0
    isplitl [H1]; · iexact H1
    isplitl [H2]; · iexact H2
    isplitl [H3]; · iexact H3
    isplitl [H4]; · iexact H4
    isplitl [H5]; · iexact H5
    isplitl [H6] <;> iassumption
  iexact HV

/-! ## The tokens dealt to the devices that pay them -/

/-- The number of places the other way round. -/
def back : Fin 8 ≃ Fin 8 := ⟨fun o => -o, fun o => -o, by decide, by decide⟩

/-- Over all devices and numbers, a family read at the device `j` places on is the family. -/
theorem deal (σ : Fin 8 ≃ Fin 8) (Φ : Dev nD → Fin 8 → sProp 𝕄) :
    (bigSep Finset.univ fun c : Dev nD => bigSep Finset.univ fun j : Fin 8 => Φ c j)
      = bigSep Finset.univ fun c : Dev nD => bigSep Finset.univ fun o : Fin 8 => Φ (nxt o c) (σ o) := by
  rw [← bigSep_univ_prod (fun p : Dev nD × Fin 8 => Φ p.1 p.2), ← bigSep_univ_prod (fun p : Dev nD × Fin 8 => Φ (nxt p.2 p.1) (σ p.2))]
  exact bigSep_univ_equiv
    (⟨fun p => (nxt p.2 p.1, σ p.2), fun p => (prv (σ.symm p.2) p.1, σ.symm p.2), fun p => by simp [prv_nxt], fun p => by simp [nxt_prv]⟩ : Dev nD × Fin 8 ≃ Dev nD × Fin 8)
    (fun p : Dev nD × Fin 8 => Φ p.1 p.2)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal back (fun c j => (dutyTok ER (barCell c) 0 j : sProp 𝕄)),
    deal (Equiv.refl (Fin 8)) (fun c j => (dutyTok ER (recvCell c j) 0 0 : sProp 𝕄))]
  exact Entails.refl _

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (sched m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (sched m) κ (kcell ck) : sProp 𝕄))) $$ HI
  icases HK with ⟨%K, #HI⟩
  ihave Htk := (toks_around (F := F)) $$ Htok
  have give (c : Dev nD) : iprop(records m K ∗ atStart c ∗ payToks c) ⊢ G' m c := by
    unfold G' ghost; iintro H; iexists K; iexact H
  iapply (with_records (R := records m K) fun c _ => give c)
  isplitr
  · unfold records; isplitl; · iexact HI
    iexact HR
  · iapply (Entails.of_eq (bigSep_sep' Finset.univ (fun c : Dev nD => (atStart c : sProp 𝕄)) payToks).symm)
    isplitl [Hat]
    · iapply (show (bigSep Finset.univ fun c : Dev nD => bigSep Finset.univ fun k : Fin 17 => (atPos ER (kcell (c, k)) 0 ∅ 0 : sProp 𝕄)) ⊢ bigSep Finset.univ atStart from bigSep_mono fun c _ => atStart_intro c); iexact Hat
    iexact Htk

/-- All devices' semaphores at once become the protocol's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- How many of a device's remaining copies go to receive cell `j` of device `c`. -/
def copiesTo (d c : Dev nD) (j : Fin 8) : ℕ → ℕ
  | 0 => 0
  | n + 1 => copiesTo d c j n + if c = nxt ⟨7 - n, by omega⟩ d ∧ j = ⟨7 - n, by omega⟩ then 1 else 0
/-- How many of its remaining signals go to device `c`. -/
def signalsTo (d c : Dev nD) : ℕ → ℕ
  | 0 => 0
  | n + 1 => signalsTo d c n + if c = nxt ⟨7 - n, by omega⟩ d then 1 else 0

theorem bar_eq_iff {a b : Dev nD} : (barCell a = barCell b) ↔ a = b :=
  ⟨fun h => Fin.ext (congrArg (fun g : GSem nD τ sig => g.1.1.val) h), fun h => h ▸ rfl⟩
theorem recvS_injective : Function.Injective (fun j => (SemLoc.dma (recvS j) : SemLoc sig)) := by decide
theorem recv_eq_iff {a b : Dev nD} {i j : Fin 8} : (recvCell a i = recvCell b j) ↔ a = b ∧ i = j :=
  ⟨fun h => ⟨Fin.ext (congrArg (fun g : GSem nD τ sig => g.1.1.val) h), recvS_injective (congrArg Prod.snd h)⟩, fun h => by rw [h.1, h.2]⟩
theorem recv_ne_bar (a b : Dev nD) (j : Fin 8) : recvCell a j ≠ barCell b := fun h => by cases congrArg Prod.snd h

theorem oR_recv (d c : Dev nD) (j : Fin 8) : ∀ n, oR d n (recvCell c j) () = copiesTo d c j n * N
  | 0 => (Nat.zero_mul _).symm
  | n + 1 => by
    unfold oR copiesTo
    rw [Pi.add_apply, Finsupp.add_apply, oR_recv d c j n, tallyAt_apply, Nat.add_mul]
    congr 1
    by_cases h : c = nxt ⟨7 - n, by omega⟩ d ∧ j = ⟨7 - n, by omega⟩
    · rw [if_pos ⟨recv_eq_iff.mpr h, rfl⟩, if_pos h, Nat.one_mul]
    · rw [if_neg (fun h' => h (recv_eq_iff.mp h'.1)), if_neg h, Nat.zero_mul]
theorem oR_bar (d c : Dev nD) : ∀ n, oR d n (barCell c) () = 0
  | 0 => rfl
  | n + 1 => by
    unfold oR
    rw [Pi.add_apply, Finsupp.add_apply, oR_bar d c n, tallyAt_apply, if_neg (fun h => recv_ne_bar _ _ _ h.1.symm)]
theorem oB_recv (d c : Dev nD) (j : Fin 8) : ∀ n, oB d n (recvCell c j) () = copiesTo d c j 7 * N
  | 0 => oR_recv d c j 7
  | n + 1 => by
    unfold oB
    rw [Pi.add_apply, Finsupp.add_apply, oB_recv d c j n, tallyAt_apply, if_neg (fun h => recv_ne_bar _ _ _ h.1), Nat.add_zero]
theorem oB_bar (d c : Dev nD) : ∀ n, oB d n (barCell c) () = signalsTo d c n
  | 0 => oR_bar d c 7
  | n + 1 => by
    unfold oB signalsTo
    rw [Pi.add_apply, Finsupp.add_apply, oB_bar d c n, tallyAt_apply]
    congr 1
    by_cases h : c = nxt ⟨7 - n, by omega⟩ d
    · rw [if_pos ⟨bar_eq_iff.mpr h, rfl⟩, if_pos h]
    · rw [if_neg (fun h' => h (bar_eq_iff.mp h'.1)), if_neg h]

theorem signals_sum (c : Dev nD) : ∑ d : Dev nD, signalsTo d c 7 = 7 := by revert c; decide +kernel
theorem copies_sum (c : Dev nD) (j : Fin 8) (hj : j ≠ 0) : ∑ d : Dev nD, copiesTo d c j 7 = 1 := by revert c j; decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact (Finset.sum_congr rfl fun d _ => oB_bar d c 7).trans (signals_sum c)
theorem launch_recv (c : Dev nD) (j : Fin 8) (hj : j ≠ 0) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  exact (Finset.sum_congr rfl fun d _ => oB_recv d c j 7).trans (by rw [← Finset.sum_mul, copies_sum c j hj, Nat.one_mul])

/-- The semaphores a device is due credit on. -/
def dueSems : List (SemLoc sig) :=
  [.reg barS, .dma (recvS 1), .dma (recvS 2), .dma (recvS 3), .dma (recvS 4), .dma (recvS 5), .dma (recvS 6), .dma (recvS 7)]
theorem creds (c : Dev nD) : (Pipeline.launchCred O₀ c : sProp 𝕄) ⊢ dues c := by
  unfold Pipeline.launchCred dues
  refine (BI.bigSep_subset (s := Finset.univ) (t := dueSems.toFinset) (Finset.subset_univ _)).trans ?_
  rw [bigSep_eq_bigSepL_of_eq dueSems (by decide) (by decide), ← launch_bar, ← launch_recv c 1 (by decide), ← launch_recv c 2 (by decide), ← launch_recv c 3 (by decide),
    ← launch_recv c 4 (by decide), ← launch_recv c 5 (by decide), ← launch_recv c 6 (by decide), ← launch_recv c 7 (by decide)]
  exact Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (((c : Thread nD τ).loc main_arg1) ↦{fullShare} m ((c : Thread nD τ).loc main_arg1))) := by
  rw [Pipeline.unscopedRestP_none, unscopedRest0_eq]
  iintro ⟨Hr, Hlev, Hcr, -, HG⟩
  ihave Hc := (creds (F := F) c) $$ Hcr
  imodintro
  unfold start G'
  isplitr [Hr]
  · isplitl [HG]; · iexact HG
    isplitl [Hc] <;> iassumption
  · iexact Hr

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [sems0_eq]
  iintro ⟨Hr, HB, HO⟩
  isplitl [HB]; · iexact HB
  isplitl [HO] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- The windows' arrays at the end, and the one argument no window reads. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- On the eight devices, for any float values, from any memory with zero counters: every weakly fair execution of @main
    terminates, and every final state has each device's result array at the computed contents, its arguments unchanged and
    every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun c => iprop(((c : Thread nD τ).loc main_arg1) ↦{fullShare} m ((c : Thread nD τ).loc main_arg1)))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hr, HSI⟩
      icombine HSI Hr gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun _ h hs => ⟨fun c => ⟨(h c).1, (h c).2.2.2⟩, sem_eq_zero hs fun c => (h c).2.2.1⟩)

/-- Arguments 0, 2 and 3 hold after the run what they held. -/
theorem final_x (c : Dev nD) : finalA m c (0 : Fin 4) = m (win0_0.arr.view.loc (c : Thread nD τ)) := (dats (F := F) m 0 c).arrAt_in (0 : Fin 4) rfl _
theorem final_i (c : Dev nD) : finalA m c (1 : Fin 4) = m (win0_1.arr.view.loc (c : Thread nD τ)) := (dats (F := F) m 0 c).arrAt_in (1 : Fin 4) rfl _
theorem final_w (c : Dev nD) : finalA m c (2 : Fin 4) = m (win0_2.arr.view.loc (c : Thread nD τ)) := (dats (F := F) m 0 c).arrAt_in (2 : Fin 4) rfl _

/-! ## A window's one block is its whole array -/

theorem whole_x (c : Dev nD) (t : Fin 1) (f : Buf (Elt F) ((c : Thread nD τ).loc main_arg0)) : (win0_0.blk t).view.read (Elt F) f = f :=
  Memref.read_access_unit_zero (Elt F) main_arg0
    (show (fun a => (win0_0.index t) a * main_arg0.ty.shape.size a) = fun _ => 0 from
      funext fun a => by revert t; revert a; decide) (fun a => by revert t; revert a; decide) f
theorem whole_i (c : Dev nD) (t : Fin 1) (f : Buf (Elt F) ((c : Thread nD τ).loc main_arg2)) : (win0_1.blk t).view.read (Elt F) f = f :=
  Memref.read_access_unit_zero (Elt F) main_arg2
    (show (fun a => (win0_1.index t) a * main_arg2.ty.shape.size a) = fun _ => 0 from
      funext fun a => by revert t; revert a; decide) (fun a => by revert t; revert a; decide) f
theorem whole_w (c : Dev nD) (t : Fin 1) (f : Buf (Elt F) ((c : Thread nD τ).loc main_arg3)) : (win0_2.blk t).view.read (Elt F) f = f :=
  Memref.read_access_unit_zero (Elt F) main_arg3
    (show (fun a => (win0_2.index t) a * main_arg3.ty.shape.size a) = fun _ => 0 from
      funext fun a => by revert t; revert a; decide) (fun a => by revert t; revert a; decide) f
theorem whole_out (c : Dev nD) (t : Fin 1) (f : Buf (Elt F) ((c : Thread nD τ).loc main_v1)) : (win0_3.blk t).view.read (Elt F) f = f :=
  Memref.read_access_unit_zero (Elt F) main_v1
    (show (fun a => (win0_3.index t) a * main_v1.ty.shape.size a) = fun _ => 0 from
      funext fun a => by revert t; revert a; decide) (fun a => by revert t; revert a; decide) f

theorem xIn_eq (c : Dev nD) : xIn m c = m ((c : Thread nD τ).loc main_arg0) := whole_x c 0 _
theorem iIn_eq (c : Dev nD) : iIn m c = m ((c : Thread nD τ).loc main_arg2) := whole_i c 0 _
theorem wIn_eq (c : Dev nD) : wIn m c = m ((c : Thread nD τ).loc main_arg3) := whole_w c 0 _

/-- The result array ends holding what the body leaves in its block. -/
theorem final_out (c : Dev nD) : finalA m c (3 : Fin 4) = outAt m c := by
  have hw : ((cfg0.win 3).blk t0_0).view.read (Elt F) ((dats m 0 c).arrAt (3 : Fin 4) cfg0.N) = (dats m 0 c).flushed (3 : Fin 4) t0_0 := by
    rw [show cfg0.N = t0_0.val + 1 from rfl, (dats m 0 c).arrAt_succ (3 : Fin 4) t0_0, flush0_3, if_pos rfl]
    exact View.read_write_univ _ _
  have hf : (dats m 0 c).flushed (3 : Fin 4) t0_0 = outAt m c := by
    show (cfg0.win 3).cut _ ((dats m 0 c).after (3 : Fin 4) t0_0) = _
    exact funext fun _ => rfl
  rw [hf] at hw
  exact (whole_out c t0_0 _).symm.trans hw

/-- Every device's arguments end unchanged and its result array holds the body's result. -/
theorem run_read : θ_run defs (onTc (τ := τ) (main (F := F))) (s₀ m ρ) fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c => ⟨((h.1 c).1 (3 : Fin 4)).trans (final_out m c), ((h.1 c).1 (0 : Fin 4)).trans (final_x m c),
    (h.1 c).2, ((h.1 c).1 (1 : Fin 4)).trans (final_i m c), ((h.1 c).1 (2 : Fin 4)).trans (final_w m c)⟩, h.2⟩) (run_main m ρ)

end Cert.KernelIdeal.Exch

end
-- ==== Proof.KernelIdealRank.lean ====
module

public import proofs.«01_k».proof.Proof.KernelIdealRing
public import Idealize.ShloMosaic.Lib.Pointwise
public import Idealize.ShloMosaic.Lib.WordCmp

/-! The rank of a token: how many earlier tokens chose the same expert. The kernel computes it as a product of a one-hot table
of the choices with a strictly lower triangular table of ones. -/

@[expose] public section

set_option maxRecDepth 16384

noncomputable section

namespace Cert.KernelIdeal.Val

open Cert.KernelIdeal Cert.KernelIdeal.Gen Idealize.ShloMosaic

/-- A truth word widened and read as a number is one where the word is set and zero elsewhere. -/
theorem flag (b : BitVec 1) (p : Prop) [Decidable p] (h : b = 1#1 ↔ p) :
    (FloatOps.sitofp (F := Ideal) .f32 (BitVec.setWidth 32 b) : EReal) = if p then 1 else 0 := by
  have e : (FloatOps.sitofp (F := Ideal) .f32 (BitVec.setWidth 32 b) : EReal) = (((BitVec.setWidth 32 b).toInt : ℝ) : EReal) := rfl
  rw [e]
  by_cases hp : p
  · rw [if_pos hp, h.mpr hp]
    have : (BitVec.setWidth 32 1#1).toInt = 1 := by decide
    rw [this]; simp
  · have hb : b = 0#1 := by
      have hn : b ≠ 1#1 := fun q => hp (h.mp q)
      clear e h; revert hn; revert b; decide
    rw [if_neg hp, hb]
    have : (BitVec.setWidth 32 0#1).toInt = 0 := by decide
    rw [this]; simp

/-- A small number's word reads back as the number. -/
theorem count_word (n : ℕ) (h : n < 2 ^ 31) : (FloatOps.sitofp (F := Ideal) .f32 (BitVec.ofNat 32 n) : EReal) = ((n : ℕ) : EReal) := by
  have e : (FloatOps.sitofp (F := Ideal) .f32 (BitVec.ofNat 32 n) : EReal) = (((BitVec.ofNat 32 n).toInt : ℝ) : EReal) := rfl
  rw [e, WordCmp.toInt_ofNat_of_lt h]
  simp

/-- The words of two small numbers are equal only where the numbers are. -/
theorem word_inj {a b : ℕ} (ha : a < 2 ^ 32) (hb : b < 2 ^ 32) : BitVec.ofNat 32 a = BitVec.ofNat 32 b ↔ a = b :=
  WordCmp.ofNat_eq_ofNat_iff ha hb

theorem eq_word (a b : BitVec 32) : IntOp.cmpi .eq a b = 1#1 ↔ a = b := by
  rw [WordCmp.cmpi_eq_eq, WordCmp.ofBool_decide_eq_one_iff]

/-- How many tokens before `i` chose the expert that `i` chose. -/
def rk (R : S512x1.Idx → BitVec 32) (i : Fin 512) : ℕ :=
  (Finset.univ.filter fun j : Fin 512 => j < i ∧ R (ix2 j 0) = R (ix2 i 0)).card

theorem rk_lt (R : S512x1.Idx → BitVec 32) (i : Fin 512) : rk R i ≤ 512 :=
  (Finset.card_le_univ _).trans (by simp)

/-- Of two tokens that chose the same expert the earlier one has the smaller rank. -/
theorem rk_mono (R : S512x1.Idx → BitVec 32) {i j : Fin 512} (hij : i < j) (hR : R (ix2 i 0) = R (ix2 j 0)) : rk R i < rk R j := by
  refine Finset.card_lt_card ((Finset.ssubset_iff_of_subset fun k hk => ?_).mpr ⟨i, ?_, ?_⟩)
  · have h := (Finset.mem_filter.mp hk).2
    exact Finset.mem_filter.mpr ⟨Finset.mem_univ _, h.1.trans hij, h.2.trans hR⟩
  · exact Finset.mem_filter.mpr ⟨Finset.mem_univ _, hij, hR⟩
  · exact fun h => lt_irrefl _ (Finset.mem_filter.mp h).2.1

/-- Two tokens with the same expert and the same rank are one token. -/
theorem rk_inj (R : S512x1.Idx → BitVec 32) {i j : Fin 512} (hR : R (ix2 i 0) = R (ix2 j 0)) (hk : rk R i = rk R j) : i = j := by
  rcases lt_trichotomy i j with h | h | h
  · exact absurd hk (rk_mono R h hR).ne
  · exact h
  · exact absurd hk (rk_mono R h hR.symm).ne'

/-- The kernel's rank column holds the rank of every token that chose one of the thirty-two experts. -/
theorem rank_at (R : Vec Ideal S512x1 .i32) (i : Fin 512) (e : Fin 32) (he : R (ix2 i 0) = BitVec.ofNat 32 e.val) :
    k0_pay2 (F := Ideal) R (ix2 i 0) = ((rk R i : ℕ) : EReal) := by
  pointwise [k0_pay2, k0_pay1]
  have h1 : ∀ x : Fin 32, (FloatOps.sitofp (F := Ideal) .f32 (BitVec.setWidth 32 (IntOp.cmpi .eq (R (ix2 i 0)) (BitVec.ofNat 32 x.val))) : EReal)
      = if e = x then 1 else 0 := fun x => flag _ _ (by
    rw [eq_word, he, word_inj (by omega) (by omega), Fin.ext_iff])
  have h2 : ∀ j : Fin 512, (FloatOps.sitofp (F := Ideal) .f32 (BitVec.setWidth 32 (IntOp.cmpi .slt (BitVec.ofNat 32 j.val) (BitVec.ofNat 32 i.val))) : EReal)
      = if j < i then 1 else 0 := fun j => flag _ _ (by
    rw [WordCmp.cmpi_slt_ofNat_eq_one_iff (by norm_num; omega) (by norm_num; omega), Fin.lt_def])
  have h3 : ∀ j : Fin 512, (FloatOps.sitofp (F := Ideal) .f32 (BitVec.setWidth 32 (IntOp.cmpi .eq (R (ix2 j 0)) (BitVec.ofNat 32 e.val))) : EReal)
      = if R (ix2 j 0) = R (ix2 i 0) then 1 else 0 := fun j => flag _ _ (by rw [eq_word, he])
  refine (Finset.sum_eq_single e (fun x _ hx => ?_) (fun h => absurd (Finset.mem_univ _) h)).trans ?_
  · rw [h1 x, if_neg (Ne.symm hx)]; exact zero_mul _
  · rw [h1 e, if_pos rfl]
    refine (one_mul _).trans ((Finset.sum_congr rfl fun j _ => ?_).trans (Finset.sum_boole (fun j : Fin 512 => j < i ∧ R (ix2 j 0) = R (ix2 i 0)) Finset.univ))
    rw [h2 j, h3 j]
    by_cases ha : j < i
    · by_cases hb : R (ix2 j 0) = R (ix2 i 0)
      · rw [if_pos ha, if_pos hb, if_pos (And.intro ha hb)]; exact one_mul _
      · rw [if_neg hb, if_neg (fun q : j < i ∧ R (ix2 j 0) = R (ix2 i 0) => hb q.2)]; exact mul_zero _
    · rw [if_neg ha, if_neg (fun q : j < i ∧ R (ix2 j 0) = R (ix2 i 0) => ha q.1)]; exact zero_mul _

end Cert.KernelIdeal.Val
end
-- ==== Proof.KernelIdealGather.lean ====
module

public import proofs.«01_k».proof.Proof.KernelIdealRank

/-! What the kernel's two selecting tables hold. Slot `s` of a device's 48 rows belongs to the device's expert `s / 12` and takes
the token of rank `s % 12`; column `j` of the table that picks the results names slot `j % 48` of the device `j / 48` places
before. -/

@[expose] public section

set_option maxRecDepth 16384

noncomputable section

namespace Cert.KernelIdeal.Val

open Cert.KernelIdeal Cert.KernelIdeal.Gen Cert.KernelIdeal.Exch Idealize.ShloMosaic

/-- A truth word made of two tests, widened and read as a number. -/
theorem flag₂ (a b : BitVec 32) (x y : EReal) (p : Prop) [Decidable p] (h : (a = b ∧ x = y) ↔ p) :
    (FloatOps.sitofp (F := Ideal) .f32 (BitVec.setWidth 32 (IntOp.andi (IntOp.cmpi .eq a b) (BitVec.ofBool (decide (x = y))))) : EReal)
      = if p then 1 else 0 := by
  refine flag _ _ ?_
  rw [← h, WordCmp.cmpi_eq_eq, WordCmp.andi_ofBool, WordCmp.ofBool_eq_one_iff, Bool.and_eq_true, decide_eq_true_iff, decide_eq_true_iff]

/-- The kernel's word for the expert of slot `s` of device `c`. -/
theorem slot_expert (c : Dev nD) (s : Fin 48) :
    IntOp.addi (Scalar.muli (myW c) 4#32)
      (Scalar.select
        (IntOp.andi
          (IntOp.cmpi .ne
            (IntOp.subi (BitVec.setWidth 32 (IntOp.cmpi .sgt (BitVec.ofNat 32 s.val) 0#32))
              (BitVec.setWidth 32 (IntOp.cmpi .slt (BitVec.ofNat 32 s.val) 0#32)))
            (Scalar.subi (Scalar.extui (Scalar.cmpi .sgt 12#32 0#32)) (Scalar.extui (Scalar.cmpi .slt 12#32 0#32))))
          (IntOp.cmpi .ne (IntOp.remsi .vector (BitVec.ofNat 32 s.val) 12#32) 0#32))
        (IntOp.subi (IntOp.divsi .vector (BitVec.ofNat 32 s.val) 12#32) 1#32)
        (IntOp.divsi .vector (BitVec.ofNat 32 s.val) 12#32))
      = BitVec.ofNat 32 (4 * c.val + s.val / 12) := by
  revert c s; decide +kernel

/-- The kernel's word for the rank that slot `s` takes. -/
theorem slot_rank (s : Fin 48) :
    Scalar.select
      (IntOp.andi
        (IntOp.xori
          (IntOp.cmpi .slt (IntOp.remsi .vector (BitVec.ofNat 32 s.val) (Scalar.select (Scalar.cmpi .eq 12#32 0#32) 1#32 12#32)) 0#32)
          (Scalar.cmpi .slt (Scalar.select (Scalar.cmpi .eq 12#32 0#32) 1#32 12#32) 0#32))
        (IntOp.cmpi .ne (IntOp.remsi .vector (BitVec.ofNat 32 s.val) (Scalar.select (Scalar.cmpi .eq 12#32 0#32) 1#32 12#32)) 0#32))
      (IntOp.addi (IntOp.remsi .vector (BitVec.ofNat 32 s.val) (Scalar.select (Scalar.cmpi .eq 12#32 0#32) 1#32 12#32))
        (Scalar.select (Scalar.cmpi .eq 12#32 0#32) 1#32 12#32))
      (IntOp.remsi .vector (BitVec.ofNat 32 s.val) (Scalar.select (Scalar.cmpi .eq 12#32 0#32) 1#32 12#32))
      = BitVec.ofNat 32 (s.val % 12) := by
  revert s; decide +kernel

/-- Row `s` of the rows a device gathers is the sum of the tokens that chose the slot's expert and have the slot's rank. -/
theorem gather_at (E : IVec S512x1 32) (K : FVec Ideal S512x1 .f32) (c : Dev nD) (X : Vec Ideal S512x256 .f32) (s : Fin 48) (d : Fin 256) :
    k0_pay5 E K (iota .tc S512x48 32 [1] iota_S512x48_d1_w32) (Scalar.muli (myW c) 4#32) 12#32
      k0_pay3 k0_pay4 (Scalar.extui (Scalar.cmpi .sgt 12#32 0#32)) (Scalar.cmpi .slt 12#32 0#32) X (ix2 s d)
      = ∑ i : Fin 512, (if E (ix2 i 0) = BitVec.ofNat 32 (4 * c.val + s.val / 12) ∧ (K (ix2 i 0) : EReal) = ((s.val % 12 : ℕ) : EReal)
          then (1 : EReal) else 0) * X (ix2 i d) := by
  pointwise [k0_pay5, k0_pay3, k0_pay4]
  refine Finset.sum_congr rfl fun i _ => ?_
  refine congrArg (fun y : EReal => y * X (ix2 i d)) (flag₂ _ _ _ _ _ ?_)
  rw [slot_expert c s, slot_rank s, count_word _ (by omega)]

/-- Column `j` of the table that picks the results is set at the tokens that chose the expert and have the rank of slot `j % 48` of the
device `j / 48` places before. -/
theorem pick_at (E : IVec S512x1 32) (K : FVec Ideal S512x1 .f32) (c : Dev nD) (i : Fin 512) (j : Fin 384) :
    k0_pay21 (F := Ideal) E K (iota .tc S512x384 32 [1] iota_S512x384_d1_w32)
      (k0_pay16 (myW c) k0_pay13 k0_pay14 k0_pay15 0#32) (k0_pay17 (iota .tc S512x384 32 [1] iota_S512x384_d1_w32)) 12#32
      (k0_pay18 (iota .tc S512x384 32 [1] iota_S512x384_d1_w32)) (k0_pay19 (iota .tc S512x384 32 [1] iota_S512x384_d1_w32)) k0_pay20 (ix2 i j)
      = if E (ix2 i 0) = BitVec.ofNat 32 (4 * ((c.val + 8 - j.val / 48) % 8) + j.val % 48 / 12) ∧ (K (ix2 i 0) : EReal) = ((j.val % 12 : ℕ) : EReal)
          then (1 : EReal) else 0 := by
  pointwise [k0_pay21, k0_pay20, k0_pay19, k0_pay18, k0_pay17, k0_pay16, k0_pay15, k0_pay14, k0_pay13]
  refine flag₂ _ _ _ _ _ (and_congr (Iff.of_eq (congrArg (fun y => E (ix2 i 0) = y) ?_)) (Iff.of_eq (congrArg (fun y : EReal => K (ix2 i 0) = y) ?_)))
  · clear E K i
    revert c j; decide +kernel
  · refine Eq.trans (congrArg (fun b : BitVec 32 => (FloatOps.sitofp (F := Ideal) .f32 b : EReal)) ?_) (count_word (j.val % 12) (by omega))
    clear E K i c
    revert j; decide +kernel

end Cert.KernelIdeal.Val
end
-- ==== Proof.KernelIdealRows.lean ====
module

public import proofs.«01_k».proof.Proof.KernelIdealGather

/-! The rows that the devices exchange: row `s` of a device's block is the token in the slot times the slot's expert's weights. -/

@[expose] public section

set_option maxRecDepth 16384

noncomputable section

namespace Cert.KernelIdeal.Val

open Cert.KernelIdeal Cert.KernelIdeal.Gen Cert.KernelIdeal.Exch Idealize.ShloMosaic

variable (m : (ℓ : Loc nD τ sig) → Buf (Elt Ideal) ℓ)

/-- The layer's plain mathematics: token `t` goes to the expert it chose if fewer than twelve earlier tokens chose that expert, and
gives zero otherwise. -/
def moe (X : S512x256.Idx → EReal) (R : S512x1.Idx → BitVec 32) (W : (⟨3, ![32, 256, 512]⟩ : Shape).Idx → EReal) (t h : Fin 512) : EReal :=
  ∑ e : Fin 32, if R (ix2 t 0) = BitVec.ofNat 32 e.val ∧ rk R t < 12 then ∑ d : Fin 256, X (ix2 t d) * W (ix3 e d h) else 0

/-- One expert's weights are the window's at that expert. -/
theorem wSl_at (c : Dev nD) (e : Fin 4) (d : Fin 256) (h : Fin 512) : wSl m c e (ix3 0 d h) = wIn m c (ix3 e d h : S4x256x512.Idx) := by
  refine congrArg (wIn m c) (funext fun a => Fin.ext ?_)
  match a with
  | ⟨0, _⟩ => show e.val + 1 * 0 = e.val; omega
  | ⟨1, _⟩ => show 0 + 1 * d.val = d.val; omega
  | ⟨2, _⟩ => show 0 + 1 * h.val = h.val; omega

/-- The rows of one expert are its gathered tokens times its weights. -/
theorem rowBlk_at (c : Dev nD) (e : Fin 4) (k : Fin 12) (h : Fin 512) :
    (rowBlk m c e (ix2 k h) : EReal)
      = ∑ d : Fin 256, (gathered m c (ix2 (⟨12 * e.val + k.val, by omega⟩ : Fin 48) d) : EReal) * wIn m c (ix3 e d h : S4x256x512.Idx) := by
  have key : ∀ (s s' : Fin 48) (_ : s = s') (d : Fin 256),
      (gathered m c (ix2 s d) : EReal) * wSl m c e (ix3 0 d h) = (gathered m c (ix2 s' d) : EReal) * wIn m c (ix3 e d h : S4x256x512.Idx) := by
    intro s s' hs d
    rw [hs, wSl_at]
  match e with
  | 0 =>
    show (k0_pay7 (gathered0 m c) (wSl m c 0) (ix2 k h) : EReal) = _
    have hg : ∀ d : Fin 256, (gathered0 m c (ix2 k d) : EReal) = gathered m c (ix2 (⟨k.val, by omega⟩ : Fin 48) d) := by
      intro d
      unfold gathered0
      pointwise [k0_pay6]
      rfl
    pointwise [k0_pay7]
    refine Finset.sum_congr rfl fun d _ => (congrArg (fun y : EReal => y * wSl m c 0 (ix3 0 d h)) (hg d)).trans (key _ _ (Fin.ext ?_) d)
    rfl
  | 1 =>
    show (k0_pay8 (gathered m c) (wSl m c 1) (ix2 k h) : EReal) = _
    pointwise [k0_pay8]
    exact Finset.sum_congr rfl fun d _ => key _ _ (Fin.ext rfl) d
  | 2 =>
    show (k0_pay9 (gathered m c) (wSl m c 2) (ix2 k h) : EReal) = _
    pointwise [k0_pay9]
    exact Finset.sum_congr rfl fun d _ => key _ _ (Fin.ext rfl) d
  | 3 =>
    show (k0_pay11 (k0_pay10 (gathered m c) (wSl m c 3)) (ix2 k h) : EReal) = _
    pointwise [k0_pay11, k0_pay10]
    exact Finset.sum_congr rfl fun d _ => key _ _ (Fin.ext rfl) d

/-- Row `s` of a device's block is the row it gathered there times the weights of the slot's expert. -/
theorem cval_at (c : Dev nD) (s : Fin 48) (h : Fin 512) :
    (cval m c (ix2 s h : S48x512.Idx) : EReal)
      = ∑ d : Fin 256, (gathered m c (ix2 s d) : EReal) * wIn m c (ix3 (⟨s.val / 12, by omega⟩ : Fin 4) d h : S4x256x512.Idx) := by
  have e1 : cval m c (ix2 s h : S48x512.Idx) = rowBlk m c ⟨s.val / 12, by omega⟩ (ix2 (⟨s.val % 12, Nat.mod_lt _ Nat.succ_pos'⟩ : Fin 12) h) := by
    rw [ix2_eq_valueIdx, ix2_eq_valueIdx]; rfl
  rw [e1, rowBlk_at]
  have hs : (⟨12 * (s.val / 12) + s.val % 12, by omega⟩ : Fin 48) = s := Fin.ext (by show 12 * (s.val / 12) + s.val % 12 = s.val; omega)
  rw [hs]

/-- The row of a slot that a token fills is the token's. -/
theorem gathered_at (c : Dev nD) (X : S512x256.Idx → EReal) (R : S512x1.Idx → BitVec 32) (hX : xIn m c = X) (hR : iIn m c = R)
    (t : Fin 512) (s : Fin 48) (ht : R (ix2 t 0) = BitVec.ofNat 32 (4 * c.val + s.val / 12)) (hk : rk R t = s.val % 12) (d : Fin 256) :
    (gathered m c (ix2 s d) : EReal) = X (ix2 t d) := by
  have hE : ∀ i, k0_pay1 (F := Ideal) (iIn m c) (ix2 i 0) = R (ix2 i 0) := by
    intro i
    rw [hR]
    pointwise [k0_pay1]
  have hc : c.val < 8 := c.isLt
  refine (gather_at (k0_pay1 (F := Ideal) (iIn m c)) (k0_pay2 (iIn m c)) c (xIn m c) s d).trans ?_
  refine (Finset.sum_eq_single t (fun i _ hi => ?_) (fun h => absurd (Finset.mem_univ _) h)).trans ?_
  · rw [if_neg]
    · exact zero_mul _
    · rintro ⟨h1, h2⟩
      rw [hE] at h1
      rw [hR, rank_at R i ⟨4 * c.val + s.val / 12, by omega⟩ h1] at h2
      exact hi (rk_inj R (h1.trans ht.symm) ((EReal.natCast_eq_iff.mp h2).trans hk.symm))
  · rw [if_pos]
    · rw [hX]; exact one_mul _
    · refine ⟨(hE t).trans ht, ?_⟩
      rw [hR, rank_at R t ⟨4 * c.val + s.val / 12, by omega⟩ ht, hk]

end Cert.KernelIdeal.Val
end
-- ==== Proof.KernelIdealValue.lean ====
module

public import proofs.«01_k».proof.Proof.KernelIdealRows

/-! What the kernel's result holds: the layer's plain mathematics, the same on every device. -/

@[expose] public section

set_option maxRecDepth 16384

noncomputable section

namespace Cert.KernelIdeal.Val

open Cert.KernelIdeal Cert.KernelIdeal.Gen Cert.KernelIdeal.Exch Idealize.ShloMosaic

variable (m : (ℓ : Loc nD τ sig) → Buf (Elt Ideal) ℓ)

/-- Slot `j` of the full landing buffer is the block of the device `j` places before. -/
theorem comm_at (c : Dev nD) (j : Fin 8) (s : Fin 48) (h : Fin 512) :
    commVal m c (ix3 j s h : S8x48x512.Idx) = cval m (prv j c) (ix2 s h : S48x512.Idx) := by
  rw [ix2_eq_valueIdx, ix3_eq_valueIdx]; rfl

theorem comm_lo_at (c : Dev nD) (a : Fin 4) (s : Fin 48) (h : Fin 512) :
    comm_lo m c (ix3 a s h) = cval m (prv (⟨a.val, by omega⟩ : Fin 8) c) (ix2 s h : S48x512.Idx) := by
  rw [← comm_at]
  refine congrArg (commVal m c) (funext fun x => Fin.ext ?_)
  match x with
  | ⟨0, _⟩ => show 0 + 1 * a.val = a.val; omega
  | ⟨1, _⟩ => show 0 + 1 * s.val = s.val; omega
  | ⟨2, _⟩ => show 0 + 1 * h.val = h.val; omega

theorem comm_hi_at (c : Dev nD) (a : Fin 4) (s : Fin 48) (h : Fin 512) :
    comm_hi m c (ix3 a s h) = cval m (prv (⟨4 + a.val, by omega⟩ : Fin 8) c) (ix2 s h : S48x512.Idx) := by
  rw [← comm_at]
  refine congrArg (commVal m c) (funext fun x => Fin.ext ?_)
  match x with
  | ⟨0, _⟩ => show 4 + 1 * a.val = 4 + a.val; omega
  | ⟨1, _⟩ => show 0 + 1 * s.val = s.val; omega
  | ⟨2, _⟩ => show 0 + 1 * h.val = h.val; omega

/-- The row that column `j` of the picking table stands for. -/
def rowOf (c : Dev nD) (h : Fin 512) (j : Fin 384) : EReal :=
  cval m (prv (⟨j.val / 48, by omega⟩ : Fin 8) c) (ix2 (⟨j.val % 48, by omega⟩ : Fin 48) h : S48x512.Idx)

/-- The picking table's entry for token `t` and column `j`. -/
def pickE (c : Dev nD) (t : Fin 512) (j : Fin 384) : EReal := pick m c (ix2 t j)

/-- The result is the picking table times the rows of all the devices. -/
theorem out_sum (c : Dev nD) (t h : Fin 512) :
    (outAt m c (ix2 t h : S512x512.Idx) : EReal) = ∑ j : Fin 384, pickE m c t j * rowOf m c h j := by
  show (k0_pay23 (pick m c) (k0_pay22 (pick m c) (comm_lo m c)) (comm_hi m c) (ix2 t h) : EReal) = _
  pointwise [k0_pay23, k0_pay22]
  refine Eq.trans ?_ (Fin.sum_univ_add (a := 192) (b := 192) fun j : Fin (192 + 192) => pickE m c t (j : Fin 384) * rowOf m c h j).symm
  refine congrArg₂ (fun a b : EReal => a + b) (Finset.sum_congr rfl fun x _ => ?_) (Finset.sum_congr rfl fun x _ => ?_)
  · rw [comm_lo_at]; rfl
  · rw [comm_hi_at]
    refine congrArg₂ (fun a b : EReal => a * b) rfl ?_
    show _ = rowOf m c h (⟨192 + x.val, by omega⟩ : Fin 384)
    have h1 : (⟨4 + x.val / 48, by omega⟩ : Fin 8) = ⟨(192 + x.val) / 48, by omega⟩ := Fin.ext (by show 4 + x.val / 48 = (192 + x.val) / 48; omega)
    have h2 : (⟨x.val % 48, by omega⟩ : Fin 48) = ⟨(192 + x.val) % 48, by omega⟩ := Fin.ext (by show x.val % 48 = (192 + x.val) % 48; omega)
    unfold rowOf
    rw [← h1, ← h2]

/-- Every device's result is the layer's plain mathematics. -/
theorem out_at (X : S512x256.Idx → EReal) (R : S512x1.Idx → BitVec 32) (W : (⟨3, ![32, 256, 512]⟩ : Shape).Idx → EReal)
    (hX : ∀ c, xIn m c = X) (hR : ∀ c, iIn m c = R)
    (hW : ∀ (c : Dev nD) (e : Fin 4) (d : Fin 256) (h : Fin 512) (E : Fin 32), E.val = 4 * c.val + e.val → wIn m c (ix3 e d h : S4x256x512.Idx) = W (ix3 E d h))
    (c : Dev nD) (t h : Fin 512) : (outAt m c (ix2 t h : S512x512.Idx) : EReal) = moe X R W t h := by
  have hc : c.val < 8 := c.isLt
  have hE : ∀ i, k0_pay1 (F := Ideal) (iIn m c) (ix2 i 0) = R (ix2 i 0) := by
    intro i
    rw [hR]
    pointwise [k0_pay1]
  have hp : ∀ j : Fin 384, pickE m c t j
      = if R (ix2 t 0) = BitVec.ofNat 32 (4 * ((c.val + 8 - j.val / 48) % 8) + j.val % 48 / 12) ∧ rk R t = j.val % 12 then 1 else 0 := by
    intro j
    refine (pick_at (k0_pay1 (F := Ideal) (iIn m c)) (k0_pay2 (iIn m c)) c t j).trans ?_
    rw [hE t, hR]
    refine if_congr (and_congr_right fun h1 => ?_) rfl rfl
    rw [rank_at R t ⟨4 * ((c.val + 8 - j.val / 48) % 8) + j.val % 48 / 12, by omega⟩ h1, EReal.natCast_eq_iff]
  refine (out_sum m c t h).trans ?_
  show (∑ j : Fin 384, pickE m c t j * rowOf m c h j : EReal) = moe X R W t h
  by_cases hex : ∃ e : Fin 32, R (ix2 t 0) = BitVec.ofNat 32 e.val ∧ rk R t < 12
  · obtain ⟨e, he, hk⟩ := hex
    have hj0 : 48 * ((c.val + 8 - e.val / 4) % 8) + 12 * (e.val % 4) + rk R t < 384 := by omega
    refine (Finset.sum_eq_single (⟨_, hj0⟩ : Fin 384) (fun j _ hj => ?_) (fun h => absurd (Finset.mem_univ _) h)).trans ?_
    · rw [hp j, if_neg]
      · exact zero_mul _
      · rintro ⟨h1, h2⟩
        rw [he, word_inj (by omega) (by omega)] at h1
        exact hj (Fin.ext (by show j.val = 48 * ((c.val + 8 - e.val / 4) % 8) + 12 * (e.val % 4) + rk R t; omega))
    · rw [hp, if_pos]
      · refine (one_mul _).trans ?_
        unfold moe
        refine Eq.trans ?_ (Finset.sum_eq_single e (fun x _ hx => if_neg ?_) (fun h => absurd (Finset.mem_univ _) h)).symm
        · rw [if_pos (And.intro he hk)]
          unfold rowOf
          refine Eq.trans (α := EReal) (cval_at m _ _ h) (Finset.sum_congr (M := EReal) rfl fun d _ => ?_)
          refine congrArg₂ (fun a b : EReal => a * b) (gathered_at m _ X R (hX _) (hR _) t _ ?_ ?_ d) (hW _ _ d h e ?_)
          · rw [he]
            refine congrArg (BitVec.ofNat 32) ?_
            show e.val = 4 * ((c.val + (8 - (48 * ((c.val + 8 - e.val / 4) % 8) + 12 * (e.val % 4) + rk R t) / 48)) % 8)
              + (48 * ((c.val + 8 - e.val / 4) % 8) + 12 * (e.val % 4) + rk R t) % 48 / 12
            omega
          · show rk R t = (48 * ((c.val + 8 - e.val / 4) % 8) + 12 * (e.val % 4) + rk R t) % 48 % 12
            omega
          · show e.val = 4 * ((c.val + (8 - (48 * ((c.val + 8 - e.val / 4) % 8) + 12 * (e.val % 4) + rk R t) / 48)) % 8)
              + (48 * ((c.val + 8 - e.val / 4) % 8) + 12 * (e.val % 4) + rk R t) % 48 / 12
            omega
        · rintro ⟨h1, -⟩
          rw [he, word_inj (by omega) (by omega)] at h1
          exact hx (Fin.ext h1.symm)
      · refine ⟨he.trans (congrArg (BitVec.ofNat 32) ?_), ?_⟩
        · show e.val = 4 * ((c.val + 8 - (48 * ((c.val + 8 - e.val / 4) % 8) + 12 * (e.val % 4) + rk R t) / 48) % 8)
            + (48 * ((c.val + 8 - e.val / 4) % 8) + 12 * (e.val % 4) + rk R t) % 48 / 12
          omega
        · show rk R t = (48 * ((c.val + 8 - e.val / 4) % 8) + 12 * (e.val % 4) + rk R t) % 12
          omega
  · refine (Finset.sum_eq_zero fun j _ => ?_).trans (Finset.sum_eq_zero fun e _ => if_neg fun q => hex ⟨e, q⟩).symm
    rw [hp j, if_neg]
    · exact zero_mul _
    · rintro ⟨h1, h2⟩
      exact hex ⟨⟨4 * ((c.val + 8 - j.val / 48) % 8) + j.val % 48 / 12, by omega⟩, h1, by omega⟩

end Cert.KernelIdeal.Val
end
-- ==== Proof.ReferenceValue.lean ====
module

public import proofs.«01_k».proof.Proof.KernelIdealRows
public import proofs.«01_k».proof.Proof.Gen.ReferenceIdeal
public import Idealize.ShloMosaic.Lib.Routing.OpsOne

/-! What the reference's result holds: the layer's plain mathematics. -/

@[expose] public section

set_option maxRecDepth 16384

noncomputable section

namespace Cert.ReferenceIdeal.Val

open Cert.ReferenceIdeal Cert.ReferenceIdeal.Gen Idealize.ShloMosaic
open Cert.KernelIdeal.Val (rk moe flag word_inj eq_word rk_lt)

/-- Which tokens chose which expert. -/
def chose (R : S512x1.Idx → BitVec 32) : IVec S512x32 1 :=
  cmpi .eq (broadcastInDim S512x32 ![0, 1] bcast_S512x1_S512x32_0_1 R) (broadcastInDim S512x32 ![0, 1] bcast_S1x32_S512x32_0_1 (broadcastInDim S1x32 ![1] bcast_S32_S1x32_1 (iotaInDim S32 32 0)))

/-- How many tokens up to and including each one chose each expert. -/
def seen (R : S512x1.Idx → BitVec 32) : IVec S512x32 32 :=
  Host.reduceWindow IntOp.addi ![512, 1] ![1, 1] ![511, 0] ![0, 0] (extui 32 (chose R) natLt_1_32) (broadcastInDim S_ ![] bcast_S_S_ (constantI S_ 32 0#32)) reduceWindows_S512x32_S512x32_w512s1p511_0_w1s1p0_0 h_S_

/-- The reference's result as its operations compose it. -/
def result (X : FVec Ideal S512x256 .f32) (R : S512x1.Idx → BitVec 32) (W : FVec Ideal S32x256x512 .f32) : FVec Ideal S512x512 .f32 :=
  Host.reduceAdd (select (broadcastInDim S512x32x512 ![0, 1, 2] bcast_S512x32x1_S512x32x512_0_1_2 (broadcastInDim S512x32x1 ![0, 1] bcast_S512x32_S512x32x1_0_1 (andi (chose R) (cmpi .sle (seen R) (broadcastInDim S512x32 ![] bcast_S_S512x32 (constantI S_ 32 12#32)))))) (Host.dotGeneral dot_S512x256_S32x256x512_S512x32x512_1_1_0_02_n_n none X W) (broadcastInDim S512x32x512 ![] bcast_S_S512x32x512 (id (constant S_ .f32 0x00000000#32)))) (constant S_ .f32 0x00000000#32) reducesTo_S512x32x512_S512x512_d1 h_S_

/-- The table of choices compares each token's word with the expert's. -/
theorem chose_at (R : S512x1.Idx → BitVec 32) (t : Fin 512) (e : Fin 32) :
    chose R (ix2 t e) = IntOp.cmpi .eq (R (ix2 t 0)) (BitVec.ofNat 32 e.val) := by
  unfold chose
  pointwise

/-- The running count is the sum of the column's entries up to the token. -/
theorem seen_at (R : S512x1.Idx → BitVec 32) (t : Fin 512) (e : Fin 32) :
    seen R (ix2 t e) = ∑ j : Fin 512, if j ≤ t then BitVec.setWidth 32 (chose R (ix2 j e)) else 0 := by
  unfold seen
  rw [ix2_eq_valueIdx]
  refine (Routing.cumsum_rows_sum (A := 512) (Am1 := 511) (N := 32) rfl (extui 32 (chose R) natLt_1_32) _ rfl reduceWindows_S512x32_S512x32_w512s1p511_0_w1s1p0_0 h_S_ t e).trans ?_
  refine Finset.sum_congr rfl fun j _ => ?_
  rw [ix2_eq_valueIdx]
  rfl

/-- With the token itself counted, one more token up to `t` chose `t`'s expert than before it. -/
theorem rk_succ (R : S512x1.Idx → BitVec 32) (t : Fin 512) :
    (Finset.univ.filter fun j : Fin 512 => j ≤ t ∧ R (ix2 j 0) = R (ix2 t 0)).card = rk R t + 1 := by
  have hs : (Finset.univ.filter fun j : Fin 512 => j ≤ t ∧ R (ix2 j 0) = R (ix2 t 0))
      = insert t (Finset.univ.filter fun j : Fin 512 => j < t ∧ R (ix2 j 0) = R (ix2 t 0)) := by
    ext j
    simp only [Finset.mem_filter, Finset.mem_univ, true_and, Finset.mem_insert]
    constructor
    · rintro ⟨h1, h2⟩
      rcases h1.eq_or_lt with h | h
      · exact Or.inl h
      · exact Or.inr ⟨h, h2⟩
    · rintro (h | ⟨h1, h2⟩)
      · subst h; exact ⟨le_refl _, rfl⟩
      · exact ⟨h1.le, h2⟩
  rw [hs, Finset.card_insert_of_notMem]
  · rfl
  · exact fun h => lt_irrefl _ (Finset.mem_filter.mp h).2.1

/-- At the expert a token chose, the running count is the token's rank and one. -/
theorem seen_rank (R : S512x1.Idx → BitVec 32) (t : Fin 512) (e : Fin 32) (he : R (ix2 t 0) = BitVec.ofNat 32 e.val) :
    seen R (ix2 t e) = BitVec.ofNat 32 (rk R t + 1) := by
  rw [seen_at, ← rk_succ, ← BitVec.natCast_eq_ofNat]
  refine (Finset.sum_congr rfl fun j _ => ?_).trans (Finset.sum_boole (fun j : Fin 512 => j ≤ t ∧ R (ix2 j 0) = R (ix2 t 0)) Finset.univ)
  rw [chose_at, he]
  by_cases hj : j ≤ t
  · by_cases hR : R (ix2 j 0) = BitVec.ofNat 32 e.val
    · rw [if_pos hj, if_pos (And.intro hj hR), (eq_word _ _).mpr hR]; rfl
    · rw [if_pos hj, if_neg (fun q : j ≤ t ∧ R (ix2 j 0) = BitVec.ofNat 32 e.val => hR q.2), WordCmp.cmpi_eq_eq, decide_eq_false hR]; rfl
  · rw [if_neg hj, if_neg (fun q : j ≤ t ∧ R (ix2 j 0) = BitVec.ofNat 32 e.val => hj q.1)]

/-- The reference keeps a token's row at an expert exactly if the token chose it and its rank is below twelve. -/
theorem kept (R : S512x1.Idx → BitVec 32) (t : Fin 512) (e : Fin 32) :
    IntOp.andi (chose R (ix2 t e)) (IntOp.cmpi .sle (seen R (ix2 t e)) 12#32) = 1#1 ↔ R (ix2 t 0) = BitVec.ofNat 32 e.val ∧ rk R t < 12 := by
  have hr := rk_lt R t
  rw [chose_at, WordCmp.cmpi_eq_eq, WordCmp.cmpi_sle_eq, WordCmp.andi_ofBool, WordCmp.ofBool_eq_one_iff, Bool.and_eq_true, decide_eq_true_iff, decide_eq_true_iff]
  refine and_congr_right fun he => ?_
  rw [seen_rank R t e he, WordCmp.toInt_ofNat_of_lt (by norm_num; omega)]
  have h12 : (12#32).toInt = 12 := by decide
  rw [h12]
  omega

/-- The reference's result is the layer's plain mathematics. -/
theorem result_at (X : FVec Ideal S512x256 .f32) (R : S512x1.Idx → BitVec 32) (W : FVec Ideal S32x256x512 .f32) (t h : Fin 512) :
    (result X R W (ix2 t h) : EReal) = moe X R W t h := by
  unfold result
  pointwise
  unfold moe
  refine Finset.sum_congr rfl fun e _ => ?_
  by_cases hk : R (ix2 t 0) = BitVec.ofNat 32 e.val ∧ rk R t < 12
  · rw [if_pos hk, (kept R t e).mpr hk]; rfl
  · rw [if_neg hk]
    have h0 : ∀ b : BitVec 1, b ≠ 1#1 → b = 0#1 := by decide
    rw [h0 _ fun q => hk ((kept R t e).mp q)]
    exact Ideal.ofBits_zero_f32

end Cert.ReferenceIdeal.Val
end
-- ==== Proof.Equation.lean ====
module

public import proofs.«01_k».proof.Proof.KernelIdealValue
public import proofs.«01_k».proof.Proof.KernelIdealLaunch
public import proofs.«01_k».proof.Proof.ReferenceValue
public import Idealize.ShloMosaic.Lib.Layout

/-! The kernel's result and the reference's are one array, on every device. -/

@[expose] public section

set_option maxRecDepth 16384

noncomputable section

namespace Cert.KernelIdeal.Val

open Cert.KernelIdeal Cert.KernelIdeal.Gen Cert.KernelIdeal.Exch Idealize.ShloMosaic Idealize.ShloMosaic.TcCoe

/-- With the tokens and the choices the same on every device, and the experts' weights dealt out four to a device in order, every
device's result is the reference's. -/
theorem out_eq (m : (ℓ : Loc nD τ sig) → Buf (Elt Ideal) ℓ) (X : FVec Ideal S512x256 .f32) (R : S512x1.Idx → BitVec 32)
    (W : FVec Ideal (⟨3, ![32, 256, 512]⟩ : Shape) .f32)
    (hX : ∀ c : Dev nD, m ((c : Thread nD τ).loc main_arg0) = X) (hR : ∀ c : Dev nD, m ((c : Thread nD τ).loc main_arg2) = R)
    (hW : ∀ c : Dev nD, m ((c : Thread nD τ).loc main_arg3) = Layout.block ⟨3, ![4, 256, 512]⟩ ⟨3, ![32, 256, 512]⟩ 0 8 c W)
    (c : Dev nD) : outAt m c = Cert.ReferenceIdeal.Val.result X R W := by
  funext i
  have hi : (i : S512x512.Idx) = ix2 (i 0 : Fin 512) (i 1 : Fin 512) := by
    rw [ix2_eq_valueIdx]; exact ValueIdx.eq_ix2 i
  rw [hi]
  refine (out_at m X R W (fun c => (xIn_eq m c).trans (hX c)) (fun c => (iIn_eq m c).trans (hR c)) (fun c e d h E hE => ?_) c (i 0) (i 1)).trans
    (Cert.ReferenceIdeal.Val.result_at X R W (i 0) (i 1)).symm
  rw [wIn_eq, hW]
  refine congrArg W (funext fun a => Fin.ext ?_)
  match a with
  | ⟨0, _⟩ => show c.val * 4 + e.val = E.val; omega
  | ⟨1, _⟩ => rfl
  | ⟨2, _⟩ => rfl

end Cert.KernelIdeal.Val
end
-- ==== Proof.lean ====
module

public import proofs.«01_k».proof.Defs
public import proofs.«01_k».proof.Proof.KernelLaunch
public import proofs.«01_k».proof.Proof.KernelIdealLaunch
public import proofs.«01_k».proof.Proof.Equation
public import proofs.«01_k».proof.Proof.Gen.ReferenceIdeal.Run
public import Idealize.ShloMosaic.Lib.Quiescent

@[expose] public section

noncomputable section

namespace Cert.Proof

open Idealize.ShloMosaic Idealize.SL.Sem

/-- The kernel as printed: every execution ends, the arguments unchanged, the semaphores at zero. -/
theorem frame_kernel : Cert.quiescent_Kernel (hKernel := Cert.Kernel.Gen.facts) := fun m ρ _ =>
  (θ_run _ _ _).mono (fun _ h => ⟨fun c => (h.1 c).2, h.2⟩) (Cert.Kernel.Exch.run_read (F := Bits) m ρ)

/-- The same of the kernel read over the extended reals. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Exch.run_read (F := Ideal) m ρ)

/-- The same of the reference, which has no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- The kernel and the reference, both read over the extended reals, end with one result: every device's is the reference's. -/
theorem algebraic : Cert.algebraic_KernelIdeal_ReferenceIdeal (hKernelIdeal := Cert.KernelIdeal.Gen.facts) (hReferenceIdeal := Cert.ReferenceIdeal.Gen.facts) :=
  fun m g m' g' _ hag => ⟨_,
    (θ_run _ _ _).mono (fun _ h c => ⟨(h.1 c).1.trans
        (Cert.KernelIdeal.Val.out_eq m _ _ _ (fun c => (hag c).1) (fun c => (hag c).2.2.1) (fun c => (hag c).2.2.2) c), (h.1 c).2⟩)
      (Cert.KernelIdeal.Exch.run_read (F := Ideal) m g),
    (θ_run _ _ _).mono (fun _ h => h 0) (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
